-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_on_exact_where [hKernelIdeal : Cert.KernelIdeal.Facts] [hReferenceIdeal : Cert.ReferenceIdeal.Facts] [hOn_exact_where : Cert.On_exact_where.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![512, 4096]⟩ ⟨2, ![512, 8192]⟩ (Layout.meshBlock [2, 4, 4] ![[], [0]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![512, 16]⟩ : Shape).Idx, (Cert.On_exact_where.fn (F := Ideal) (m' (((0 : Dev Cert.ReferenceIdeal.nD).tc : Thread Cert.ReferenceIdeal.nD Cert.ReferenceIdeal.τ).loc Cert.ReferenceIdeal.main_arg0))) i = 1#1 → r.2.mem ((c.tc : Thread Cert.KernelIdeal.nD Cert.KernelIdeal.τ).loc Cert.KernelIdeal.main_v1) i = v0 i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![512, 16]⟩ : Shape).Idx, (Cert.On_exact_where.fn (F := Ideal) (m' (((0 : Dev Cert.ReferenceIdeal.nD).tc : Thread Cert.ReferenceIdeal.nD Cert.ReferenceIdeal.τ).loc Cert.ReferenceIdeal.main_arg0))) i = 1#1 → r.2.mem (((0 : Dev Cert.ReferenceIdeal.nD).tc : Thread Cert.ReferenceIdeal.nD Cert.ReferenceIdeal.τ).loc Cert.ReferenceIdeal.main_v4) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hOn_exact_where : Cert.On_exact_where.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_exact_where (hKernelIdeal := hKernelIdeal) (hReferenceIdeal := hReferenceIdeal) (hOn_exact_where := hOn_exact_where)
-- ==== On_exact_where.lean ====
abbrev S512x8192 : Shape := ⟨2, ![512, 8192]⟩
abbrev S512x16 : Shape := ⟨2, ![512, 16]⟩
abbrev S_ : Shape := ⟨0, ![]⟩
abbrev S512x16x1 : Shape := ⟨3, ![512, 16, 1]⟩
abbrev S1 : Shape := ⟨1, ![1]⟩
abbrev S1x1x1 : Shape := ⟨3, ![1, 1, 1]⟩
abbrev S512x15 : Shape := ⟨2, ![512, 15]⟩
abbrev S16x15 : Shape := ⟨2, ![16, 15]⟩
abbrev S512x1x15 : Shape := ⟨3, ![512, 1, 15]⟩
abbrev S1x16x15 : Shape := ⟨3, ![1, 16, 15]⟩
abbrev S512x16x15 : Shape := ⟨3, ![512, 16, 15]⟩
abbrev S512x1x2x32x128 : Shape := ⟨5, ![512, 1, 2, 32, 128]⟩
abbrev S512x16x1x1x1 : Shape := ⟨5, ![512, 16, 1, 1, 1]⟩
abbrev S512x16x2x32x128 : Shape := ⟨5, ![512, 16, 2, 32, 128]⟩
abbrev S512x16x2x128 : Shape := ⟨4, ![512, 16, 2, 128]⟩
abbrev S512x16x2x1x128 : Shape := ⟨5, ![512, 16, 2, 1, 128]⟩

class Facts : Prop where
  bitsLt_bf16_f32 : FTy.bits .bf16 < FTy.bits .f32
  slices_S512x8192_S512x16_0_0 : S512x8192.Slices ![0, 0] S512x16
  bcast_S_S512x16 : S_.BroadcastsInDim S512x16 (![] : Fin 0 → Fin S512x16.rank)
  shapeCasts_S512x16_S512x16x1 : S512x16.ShapeCasts S512x16x1
  bcast_S_S512x16x1 : S_.BroadcastsInDim S512x16x1 (![] : Fin 0 → Fin S512x16x1.rank)
  bcast_S1_S1x1x1_2 : S1.BroadcastsInDim S1x1x1 (![2] : Fin 1 → Fin S1x1x1.rank)
  bcast_S1x1x1_S512x16x1_0_1_2 : S1x1x1.BroadcastsInDim S512x16x1 (![0, 1, 2] : Fin 3 → Fin S512x16x1.rank)
  reducesTo_S512x16x1_S512x16_d2 : S512x16x1.ReducesTo [2] S512x16
  h_S_ : 0 < S_.numel
  slices_S512x16_S512x15_0_0 : S512x16.Slices ![0, 0] S512x15
  slices_S512x16_S512x15_0_1 : S512x16.Slices ![0, 1] S512x15
  bcast_S512x15_S512x1x15_0_2 : S512x15.BroadcastsInDim S512x1x15 (![0, 2] : Fin 2 → Fin S512x1x15.rank)
  bcast_S16x15_S1x16x15_1_2 : S16x15.BroadcastsInDim S1x16x15 (![1, 2] : Fin 2 → Fin S1x16x15.rank)
  bcast_S512x1x15_S512x16x15_0_1_2 : S512x1x15.BroadcastsInDim S512x16x15 (![0, 1, 2] : Fin 3 → Fin S512x16x15.rank)
  bcast_S1x16x15_S512x16x15_0_1_2 : S1x16x15.BroadcastsInDim S512x16x15 (![0, 1, 2] : Fin 3 → Fin S512x16x15.rank)
  reducesTo_S512x16x15_S512x16_d2 : S512x16x15.ReducesTo [2] S512x16
  shapeCasts_S512x8192_S512x1x2x32x128 : S512x8192.ShapeCasts S512x1x2x32x128
  shapeCasts_S512x16_S512x16x1x1x1 : S512x16.ShapeCasts S512x16x1x1x1
  bcast_S512x1x2x32x128_S512x16x2x32x128_0_1_2_3_4 : S512x1x2x32x128.BroadcastsInDim S512x16x2x32x128 (![0, 1, 2, 3, 4] : Fin 5 → Fin S512x16x2x32x128.rank)
  bcast_S512x16x1x1x1_S512x16x2x32x128_0_1_2_3_4 : S512x16x1x1x1.BroadcastsInDim S512x16x2x32x128 (![0, 1, 2, 3, 4] : Fin 5 → Fin S512x16x2x32x128.rank)
  natLt_1_32 : 1 < 32
  reducesTo_S512x16x2x32x128_S512x16x2x128_d3 : S512x16x2x32x128.ReducesTo [3] S512x16x2x128
  bcast_S_S512x16x2x128 : S_.BroadcastsInDim S512x16x2x128 (![] : Fin 0 → Fin S512x16x2x128.rank)
  shapeCasts_S512x16x2x128_S512x16x2x1x128 : S512x16x2x128.ShapeCasts S512x16x2x1x128
  bcast_S512x16x2x1x128_S512x16x2x32x128_0_1_2_3_4 : S512x16x2x1x128.BroadcastsInDim S512x16x2x32x128 (![0, 1, 2, 3, 4] : Fin 5 → Fin S512x16x2x32x128.rank)
  reducesTo_S512x16x2x32x128_S512x16_d2_3_4 : S512x16x2x32x128.ReducesTo [2, 3, 4] S512x16
  reducesTo_S512x16x2x128_S512x16_d2_3 : S512x16x2x128.ReducesTo [2, 3] S512x16
  gather_S512x8192_S512x16x1_S512x16_n_1_0_0_1_2_11_wf : GatherDims.WF S512x8192 S512x16x1 S512x16 [] [1] [0] [1] [0] 2 ![1, 1]

variable [Facts]

variable {F : FTy → Type} [FloatOps F]
def comparator_f32_i32_d1 : F .f32 × BitVec 32 → F .f32 × BitVec 32 → BitVec 1 :=
  fun l r =>
    let cst := FloatOps.ofBits .f32 0x00000000#32
    let v2 := FloatOps.cmpf .oeq l.1 cst
    let cst_0 := FloatOps.ofBits .f32 0x00000000#32
    let v3 := Scalar.select v2 cst_0 l.1
    let v4 := FloatOps.cmpf .une l.1 l.1
    let cst_1 := FloatOps.ofBits .f32 0x7FC00000#32
    let v5 := Scalar.select v4 cst_1 v3
    let cst_2 := FloatOps.ofBits .f32 0x00000000#32
    let v6 := FloatOps.cmpf .oeq r.1 cst_2
    let cst_3 := FloatOps.ofBits .f32 0x00000000#32
    let v7 := Scalar.select v6 cst_3 r.1
    let v8 := FloatOps.cmpf .une r.1 r.1
    let cst_4 := FloatOps.ofBits .f32 0x7FC00000#32
    let v9 := Scalar.select v8 cst_4 v7
    let v10 := FloatOps.cmpfTotal .lt v5 v9
    v10
def gather_S512x8192_S512x16x1_S512x16_n_1_0_0_1_2_11 : GatherDims S512x8192 S512x16x1 S512x16 where
  offsetDims := []
  collapsedSliceDims := [1]
  operandBatchingDims := [0]
  startIndicesBatchingDims := [0]
  startIndexMap := [1]
  indexVectorDim := 2
  sliceSizes := ![1, 1]
  wf := gather_S512x8192_S512x16x1_S512x16_n_1_0_0_1_2_11_wf

def fn_argsort {F : FTy → Type} [FloatOps F] (arg0 : FVec F S512x8192 .f32) : IVec S512x8192 32 :=
  let v0 : IVec S512x8192 32 := iotaInDim S512x8192 32 1
  let v1_0 : FVec F S512x8192 .f32 := (fun x y => (Host.sort2 S512x8192 1 comparator_f32_i32_d1 x y).1) arg0 v0
  let v1_1 : IVec S512x8192 32 := (fun x y => (Host.sort2 S512x8192 1 comparator_f32_i32_d1 x y).2) arg0 v0
  v1_1

def fn_take_along_axis {F : FTy → Type} [FloatOps F] (arg0 : FVec F S512x8192 .f32) (arg1 : IVec S512x16 32) : FVec F S512x16 .f32 :=
  let c : IVec S_ 32 := constantI S_ 32 0#32
  let v0 : IVec S512x16 32 := broadcastInDim S512x16 ![] bcast_S_S512x16 c
  let v1 : IVec S512x16 1 := cmpi .slt arg1 v0
  let c_0 : IVec S_ 32 := constantI S_ 32 8192#32
  let v2 : IVec S512x16 32 := broadcastInDim S512x16 ![] bcast_S_S512x16 c_0
  let v3 : IVec S512x16 32 := addi arg1 v2
  let v4 : IVec S512x16 32 := select v1 v3 arg1
  let v5 : IVec S512x16x1 32 := shapeCast S512x16x1 v4 shapeCasts_S512x16_S512x16x1
  let c_1 : IVec S1 32 := constantI S1 32 8191#32
  let c_2 : IVec S_ 32 := constantI S_ 32 0#32
  let v6 : IVec S512x16x1 32 := broadcastInDim S512x16x1 ![] bcast_S_S512x16x1 c_2
  let v7 : IVec S512x16x1 1 := cmpi .sge v5 v6
  let v8 : IVec S1x1x1 32 := broadcastInDim S1x1x1 ![2] bcast_S1_S1x1x1_2 c_1
  let v9 : IVec S512x16x1 32 := broadcastInDim S512x16x1 ![0, 1, 2] bcast_S1x1x1_S512x16x1_0_1_2 v8
  let v10 : IVec S512x16x1 1 := cmpi .sle v5 v9
  let v11 : IVec S512x16x1 1 := andi v7 v10
  let c_3 : IVec S_ 1 := constantI S_ 1 1#1
  let v12 : IVec S512x16 1 := (fun x v => Host.reduce IntOp.andi x v reducesTo_S512x16x1_S512x16_d2 h_S_) v11 c_3
  let v13 : FVec F S512x16 .f32 := (fun x i => Host.gather gather_S512x8192_S512x16x1_S512x16_n_1_0_0_1_2_11 x i) arg0 v5
  let cst : FVec F S_ .f32 := constant S_ .f32 0x7FC00000#32
  let v14 : FVec F S512x16 .f32 := broadcastInDim S512x16 ![] bcast_S_S512x16 cst
  let v15 : FVec F S512x16 .f32 := select v12 v13 v14
  v15

def fn_part2 {F : FTy → Type} [FloatOps F] (main_v4 : FVec F S512x16 .f32) (main_v39 : IVec S512x16 1) (main_v40 : FVec F S512x16 .f32) : IVec S512x16 1 :=
  let main_v41 : IVec S512x16 1 := cmpf .oeq main_v4 main_v40
  let main_v42 : IVec S512x16 1 := ori main_v39 main_v41
  main_v42

def fn_part1 {F : FTy → Type} [FloatOps F] (main_v4 : FVec F S512x16 .f32) (main_v16 : IVec S512x16 1) (main_v18 : FVec F S512x1x2x32x128 .f32) (main_v19 : FVec F S512x16x1x1x1 .f32) (main_v22 : IVec S512x16x2x32x128 1) : IVec S512x16 1 :=
  let main_v23 : IVec S512x16x2x32x128 32 := (extui 32 · natLt_1_32) main_v22
  let main_c_0 : IVec S_ 32 := constantI S_ 32 0#32
  let main_v24 : IVec S512x16x2x128 32 := (fun x v => Host.reduce IntOp.addi x v reducesTo_S512x16x2x32x128_S512x16x2x128_d3 h_S_) main_v23 main_c_0
  let main_v25 : FVec F S512x16x2x32x128 .f32 := broadcastInDim S512x16x2x32x128 ![0, 1, 2, 3, 4] bcast_S512x1x2x32x128_S512x16x2x32x128_0_1_2_3_4 main_v18
  let main_v26 : FVec F S512x16x2x32x128 .f32 := broadcastInDim S512x16x2x32x128 ![0, 1, 2, 3, 4] bcast_S512x16x1x1x1_S512x16x2x32x128_0_1_2_3_4 main_v19
  let main_v27 : IVec S512x16x2x32x128 1 := cmpf .une main_v25 main_v26
  let main_c_1 : IVec S_ 32 := constantI S_ 32 3#32
  let main_v28 : IVec S512x16x2x128 32 := broadcastInDim S512x16x2x128 ![] bcast_S_S512x16x2x128 main_c_1
  let main_v29 : IVec S512x16x2x128 1 := cmpi .sge main_v24 main_v28
  let main_v30 : IVec S512x16x2x1x128 1 := shapeCast S512x16x2x1x128 main_v29 shapeCasts_S512x16x2x128_S512x16x2x1x128
  let main_v31 : IVec S512x16x2x32x128 1 := broadcastInDim S512x16x2x32x128 ![0, 1, 2, 3, 4] bcast_S512x16x2x1x128_S512x16x2x32x128_0_1_2_3_4 main_v30
  let main_v32 : IVec S512x16x2x32x128 1 := ori main_v27 main_v31
  let main_c_2 : IVec S_ 1 := constantI S_ 1 1#1
  let main_v33 : IVec S512x16 1 := (fun x v => Host.reduce IntOp.andi x v reducesTo_S512x16x2x32x128_S512x16_d2_3_4 h_S_) main_v32 main_c_2
  let main_c_3 : IVec S_ 32 := constantI S_ 32 3#32
  let main_v34 : IVec S512x16x2x128 32 := broadcastInDim S512x16x2x128 ![] bcast_S_S512x16x2x128 main_c_3
  let main_v35 : IVec S512x16x2x128 1 := cmpi .sle main_v24 main_v34
  let main_c_4 : IVec S_ 1 := constantI S_ 1 1#1
  let main_v36 : IVec S512x16 1 := (fun x v => Host.reduce IntOp.andi x v reducesTo_S512x16x2x128_S512x16_d2_3 h_S_) main_v35 main_c_4
  let main_v37 : IVec S512x16 1 := andi main_v16 main_v36
  let main_v38 : IVec S512x16 1 := noti main_v33
  let main_v39 : IVec S512x16 1 := andi main_v37 main_v38
  let main_cst : FVec F S_ .f32 := constant S_ .f32 0xFF800000#32
  let main_v40 : FVec F S512x16 .f32 := broadcastInDim S512x16 ![] bcast_S_S512x16 main_cst
  fn_part2 (F := F) main_v4 main_v39 main_v40

def fn {F : FTy → Type} [FloatOps F] (main_arg0 : FVec F S512x8192 .bf16) : IVec S512x16 1 :=
  let main_v0 : FVec F S512x8192 .f32 := (extf .f32 · bitsLt_bf16_f32) main_arg0
  let main_v1 : FVec F S512x8192 .f32 := Host.negf main_v0
  let main_v2 : IVec S512x8192 32 := fn_argsort (F := F) main_v1
  let main_v3 : IVec S512x16 32 := (extractStridedSlice S512x16 ![0, 0] · slices_S512x8192_S512x16_0_0) main_v2
  let main_v4 : FVec F S512x16 .f32 := fn_take_along_axis (F := F) main_v0 main_v3
  let main_v5 : FVec F S512x15 .f32 := (extractStridedSlice S512x15 ![0, 0] · slices_S512x16_S512x15_0_0) main_v4
  let main_v6 : FVec F S512x15 .f32 := (extractStridedSlice S512x15 ![0, 1] · slices_S512x16_S512x15_0_1) main_v4
  let main_v7 : IVec S512x15 1 := cmpf .ogt main_v5 main_v6
  let main_v8 : IVec S16x15 32 := iotaInDim S16x15 32 1
  let main_v9 : IVec S16x15 32 := iotaInDim S16x15 32 0
  let main_v10 : IVec S16x15 1 := cmpi .sge main_v8 main_v9
  let main_v11 : IVec S512x1x15 1 := broadcastInDim S512x1x15 ![0, 2] bcast_S512x15_S512x1x15_0_2 main_v7
  let main_v12 : IVec S1x16x15 1 := broadcastInDim S1x16x15 ![1, 2] bcast_S16x15_S1x16x15_1_2 main_v10
  let main_v13 : IVec S512x16x15 1 := broadcastInDim S512x16x15 ![0, 1, 2] bcast_S512x1x15_S512x16x15_0_1_2 main_v11
  let main_v14 : IVec S512x16x15 1 := broadcastInDim S512x16x15 ![0, 1, 2] bcast_S1x16x15_S512x16x15_0_1_2 main_v12
  let main_v15 : IVec S512x16x15 1 := ori main_v13 main_v14
  let main_c : IVec S_ 1 := constantI S_ 1 1#1
  let main_v16 : IVec S512x16 1 := (fun x v => Host.reduce IntOp.andi x v reducesTo_S512x16x15_S512x16_d2 h_S_) main_v15 main_c
  let main_v17 : FVec F S512x8192 .f32 := (extf .f32 · bitsLt_bf16_f32) main_arg0
  let main_v18 : FVec F S512x1x2x32x128 .f32 := shapeCast S512x1x2x32x128 main_v17 shapeCasts_S512x8192_S512x1x2x32x128
  let main_v19 : FVec F S512x16x1x1x1 .f32 := shapeCast S512x16x1x1x1 main_v4 shapeCasts_S512x16_S512x16x1x1x1
  let main_v20 : FVec F S512x16x2x32x128 .f32 := broadcastInDim S512x16x2x32x128 ![0, 1, 2, 3, 4] bcast_S512x1x2x32x128_S512x16x2x32x128_0_1_2_3_4 main_v18
  let main_v21 : FVec F S512x16x2x32x128 .f32 := broadcastInDim S512x16x2x32x128 ![0, 1, 2, 3, 4] bcast_S512x16x1x1x1_S512x16x2x32x128_0_1_2_3_4 main_v19
  let main_v22 : IVec S512x16x2x32x128 1 := cmpf .ogt main_v20 main_v21
  fn_part1 (F := F) main_v4 main_v16 main_v18 main_v19 main_v22
-- ==== Kernel.lean ====
abbrev S512x4096 : Shape := ⟨2, ![512, 4096]⟩
abbrev S512x16 : Shape := ⟨2, ![512, 16]⟩
abbrev S128x16 : Shape := ⟨2, ![128, 16]⟩
abbrev S4x128x16 : Shape := ⟨3, ![4, 128, 16]⟩
abbrev S_ : Shape := ⟨0, ![]⟩
abbrev S4 : Shape := ⟨1, ![4]⟩
abbrev S128x4096 : Shape := ⟨2, ![128, 4096]⟩
abbrev S128x128 : Shape := ⟨2, ![128, 128]⟩
abbrev S128x384 : Shape := ⟨2, ![128, 384]⟩
abbrev S128 : Shape := ⟨1, ![128]⟩
abbrev S128x1 : Shape := ⟨2, ![128, 1]⟩
abbrev S128x32 : Shape := ⟨2, ![128, 32]⟩
abbrev S1 : Shape := ⟨1, ![1]⟩
abbrev S1x128x16 : Shape := ⟨3, ![1, 128, 16]⟩

abbrev nBuf : Space → Nat
  | .hbm => 2
  | .vmem => 6
  | .smem => 0
  | _ => 0

abbrev bufTy : (tb : Table) → Fin (tcTables nBuf tb) → BufTy
  | .hbm, ⟨0, _⟩ => ⟨S512x4096, .bf16⟩
  | .hbm, ⟨1, _⟩ => ⟨S512x16, .f32⟩
  | .local _ .vmem, ⟨0, _⟩ => ⟨S512x4096, .bf16⟩
  | .local _ .vmem, ⟨1, _⟩ => ⟨S512x16, .f32⟩
  | .local _ .vmem, ⟨2, _⟩ => ⟨S128x16, .f32⟩
  | .local _ .vmem, ⟨3, _⟩ => ⟨S128x16, .f32⟩
  | .local _ .vmem, ⟨4, _⟩ => ⟨S128x16, .f32⟩
  | .local _ .vmem, ⟨5, _⟩ => ⟨S4x128x16, .f32⟩
  | _, _ => ⟨S512x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  (ofTc nBuf bufTy 1 12 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_scratch3 : Ref sig .tc := ⟨.vmem, 5, rfl⟩
abbrev cc0_sem0_0 : DmaSem sig := 0
abbrev cc0_sem1_0 : DmaSem sig := 1
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_4 : BitVec 32 := 16#32
  let v11 : BitVec 32 := Scalar.muli v9 c16_i32_4
  let v12 : BitVec 32 := Scalar.addi c0_i32 v11
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_5 : BitVec 32 := 4#32
  let v13 : BitVec 32 := Scalar.muli v5 c4_i32_5
  let v14 : BitVec 32 := Scalar.addi v12 v13
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_6 : BitVec 32 := 1#32
  let v15 : BitVec 32 := Scalar.muli v8 c1_i32_6
  let v16 : BitVec 32 := Scalar.addi v14 v15
  v16.toNat
def k0_cond1 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_7 : BitVec 32 := 0#32
  let v17 : BitVec 1 := Scalar.cmpi .ne v5 c0_i32_7
  let v18 : BitVec 32 := Scalar.extui v17
  let c0_i32_8 : BitVec 32 := 0#32
  let v19 : BitVec 1 := Scalar.cmpi .ne v18 c0_i32_8
  v19

def k0_dev2 (d0 : Dev nD) : Nat :=
  let c0_i32_202 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_201 : BitVec 32 := 16#32
  let v607 : BitVec 32 := Scalar.muli v2 c16_i32_201
  let v608 : BitVec 32 := Scalar.addi c0_i32_202 v607
  let c0_i32_200 : BitVec 32 := 0#32
  let c4_i32_203 : BitVec 32 := 4#32
  let v609 : BitVec 32 := Scalar.muli c0_i32_200 c4_i32_203
  let v610 : BitVec 32 := Scalar.addi v608 v609
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_204 : BitVec 32 := 1#32
  let v611 : BitVec 32 := Scalar.muli v8 c1_i32_204
  let v612 : BitVec 32 := Scalar.addi v610 v611
  v612.toNat
def k0_cond2 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_9 : BitVec 32 := 1#32
  let v20 : BitVec 1 := Scalar.cmpi .ne v5 c1_i32_9
  let v21 : BitVec 32 := Scalar.extui v20
  let c0_i32_10 : BitVec 32 := 0#32
  let v22 : BitVec 1 := Scalar.cmpi .ne v21 c0_i32_10
  v22

def k0_dev3 (d0 : Dev nD) : Nat :=
  let c0_i32_202 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_201 : BitVec 32 := 16#32
  let v607 : BitVec 32 := Scalar.muli v2 c16_i32_201
  let v608 : BitVec 32 := Scalar.addi c0_i32_202 v607
  let c1_i32_200 : BitVec 32 := 1#32
  let c4_i32_203 : BitVec 32 := 4#32
  let v609 : BitVec 32 := Scalar.muli c1_i32_200 c4_i32_203
  let v610 : BitVec 32 := Scalar.addi v608 v609
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_204 : BitVec 32 := 1#32
  let v611 : BitVec 32 := Scalar.muli v8 c1_i32_204
  let v612 : BitVec 32 := Scalar.addi v610 v611
  v612.toNat
def k0_cond3 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_11 : BitVec 32 := 2#32
  let v23 : BitVec 1 := Scalar.cmpi .ne v5 c2_i32_11
  let v24 : BitVec 32 := Scalar.extui v23
  let c0_i32_12 : BitVec 32 := 0#32
  let v25 : BitVec 1 := Scalar.cmpi .ne v24 c0_i32_12
  v25

def k0_dev4 (d0 : Dev nD) : Nat :=
  let c0_i32_202 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_201 : BitVec 32 := 16#32
  let v607 : BitVec 32 := Scalar.muli v2 c16_i32_201
  let v608 : BitVec 32 := Scalar.addi c0_i32_202 v607
  let c2_i32_200 : BitVec 32 := 2#32
  let c4_i32_203 : BitVec 32 := 4#32
  let v609 : BitVec 32 := Scalar.muli c2_i32_200 c4_i32_203
  let v610 : BitVec 32 := Scalar.addi v608 v609
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_204 : BitVec 32 := 1#32
  let v611 : BitVec 32 := Scalar.muli v8 c1_i32_204
  let v612 : BitVec 32 := Scalar.addi v610 v611
  v612.toNat
def k0_cond4 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v26 : BitVec 1 := Scalar.cmpi .ne v5 c3_i32
  let v27 : BitVec 32 := Scalar.extui v26
  let c0_i32_13 : BitVec 32 := 0#32
  let v28 : BitVec 1 := Scalar.cmpi .ne v27 c0_i32_13
  v28

def k0_dev5 (d0 : Dev nD) : Nat :=
  let c0_i32_202 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_201 : BitVec 32 := 16#32
  let v607 : BitVec 32 := Scalar.muli v2 c16_i32_201
  let v608 : BitVec 32 := Scalar.addi c0_i32_202 v607
  let c3_i32_200 : BitVec 32 := 3#32
  let c4_i32_203 : BitVec 32 := 4#32
  let v609 : BitVec 32 := Scalar.muli c3_i32_200 c4_i32_203
  let v610 : BitVec 32 := Scalar.addi v608 v609
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_204 : BitVec 32 := 1#32
  let v611 : BitVec 32 := Scalar.muli v8 c1_i32_204
  let v612 : BitVec 32 := Scalar.addi v610 v611
  v612.toNat
def k0_off1 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c128_i32 : BitVec 32 := 128#32
  let v29 : BitVec 32 := Scalar.muli v5 c128_i32
  let v30 : Index := Scalar.indexCast v29
  let c0 : Index := 0#32
  ![v30.toNat, 0]
def k0_dev6 (d0 : Dev nD) : Nat :=
  let c0_i32_112 : BitVec 32 := 0#32
  let c1_i32_2 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v9 : BitVec 32 := Scalar.subi c1_i32_2 v2
  let c16_i32_111 : BitVec 32 := 16#32
  let v448 : BitVec 32 := Scalar.muli v9 c16_i32_111
  let v449 : BitVec 32 := Scalar.addi c0_i32_112 v448
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_113 : BitVec 32 := 4#32
  let v450 : BitVec 32 := Scalar.muli v5 c4_i32_113
  let v451 : BitVec 32 := Scalar.addi v449 v450
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_114 : BitVec 32 := 1#32
  let v452 : BitVec 32 := Scalar.muli v8 c1_i32_114
  let v453 : BitVec 32 := Scalar.addi v451 v452
  v453.toNat
def k0_cond5 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_157 : BitVec 32 := 0#32
  let v559 : BitVec 1 := Scalar.cmpi .ne v5 c0_i32_157
  let v560 : BitVec 32 := Scalar.extui v559
  let c0_i32_158 : BitVec 32 := 0#32
  let v561 : BitVec 1 := Scalar.cmpi .ne v560 c0_i32_158
  v561

def k0_off2 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  ![v5.toNat]
def k0_off3 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_205 : BitVec 32 := 0#32
  let c0_i32_206 : BitVec 32 := 0#32
  ![v5.toNat, 0, 0]
def k0_dev7 (d0 : Dev nD) : Nat :=
  let c0_i32_202 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_201 : BitVec 32 := 16#32
  let v607 : BitVec 32 := Scalar.muli v2 c16_i32_201
  let v608 : BitVec 32 := Scalar.addi c0_i32_202 v607
  let c0_i32_200 : BitVec 32 := 0#32
  let c4_i32_203 : BitVec 32 := 4#32
  let v609 : BitVec 32 := Scalar.muli c0_i32_200 c4_i32_203
  let v610 : BitVec 32 := Scalar.addi v608 v609
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_204 : BitVec 32 := 1#32
  let v611 : BitVec 32 := Scalar.muli v8 c1_i32_204
  let v612 : BitVec 32 := Scalar.addi v610 v611
  v612.toNat
def k0_cond6 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_159 : BitVec 32 := 1#32
  let v562 : BitVec 1 := Scalar.cmpi .ne v5 c1_i32_159
  let v563 : BitVec 32 := Scalar.extui v562
  let c0_i32_160 : BitVec 32 := 0#32
  let v564 : BitVec 1 := Scalar.cmpi .ne v563 c0_i32_160
  v564

def k0_off4 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  ![v5.toNat]
def k0_off5 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_205 : BitVec 32 := 0#32
  let c0_i32_206 : BitVec 32 := 0#32
  ![v5.toNat, 0, 0]
def k0_dev8 (d0 : Dev nD) : Nat :=
  let c0_i32_202 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_201 : BitVec 32 := 16#32
  let v607 : BitVec 32 := Scalar.muli v2 c16_i32_201
  let v608 : BitVec 32 := Scalar.addi c0_i32_202 v607
  let c1_i32_200 : BitVec 32 := 1#32
  let c4_i32_203 : BitVec 32 := 4#32
  let v609 : BitVec 32 := Scalar.muli c1_i32_200 c4_i32_203
  let v610 : BitVec 32 := Scalar.addi v608 v609
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_204 : BitVec 32 := 1#32
  let v611 : BitVec 32 := Scalar.muli v8 c1_i32_204
  let v612 : BitVec 32 := Scalar.addi v610 v611
  v612.toNat
def k0_cond7 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_161 : BitVec 32 := 2#32
  let v565 : BitVec 1 := Scalar.cmpi .ne v5 c2_i32_161
  let v566 : BitVec 32 := Scalar.extui v565
  let c0_i32_162 : BitVec 32 := 0#32
  let v567 : BitVec 1 := Scalar.cmpi .ne v566 c0_i32_162
  v567

def k0_off6 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  ![v5.toNat]
def k0_off7 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_205 : BitVec 32 := 0#32
  let c0_i32_206 : BitVec 32 := 0#32
  ![v5.toNat, 0, 0]
def k0_dev9 (d0 : Dev nD) : Nat :=
  let c0_i32_202 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_201 : BitVec 32 := 16#32
  let v607 : BitVec 32 := Scalar.muli v2 c16_i32_201
  let v608 : BitVec 32 := Scalar.addi c0_i32_202 v607
  let c2_i32_200 : BitVec 32 := 2#32
  let c4_i32_203 : BitVec 32 := 4#32
  let v609 : BitVec 32 := Scalar.muli c2_i32_200 c4_i32_203
  let v610 : BitVec 32 := Scalar.addi v608 v609
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_204 : BitVec 32 := 1#32
  let v611 : BitVec 32 := Scalar.muli v8 c1_i32_204
  let v612 : BitVec 32 := Scalar.addi v610 v611
  v612.toNat
def k0_cond8 (d0 : Dev nD) : BitVec 1 :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_163 : BitVec 32 := 3#32
  let v568 : BitVec 1 := Scalar.cmpi .ne v5 c3_i32_163
  let v569 : BitVec 32 := Scalar.extui v568
  let c0_i32_164 : BitVec 32 := 0#32
  let v570 : BitVec 1 := Scalar.cmpi .ne v569 c0_i32_164
  v570

def k0_off8 (d0 : Dev nD) : Fin 1 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  ![v5.toNat]
def k0_off9 (d0 : Dev nD) : Fin 3 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c0_i32_205 : BitVec 32 := 0#32
  let c0_i32_206 : BitVec 32 := 0#32
  ![v5.toNat, 0, 0]
def k0_dev10 (d0 : Dev nD) : Nat :=
  let c0_i32_202 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_201 : BitVec 32 := 16#32
  let v607 : BitVec 32 := Scalar.muli v2 c16_i32_201
  let v608 : BitVec 32 := Scalar.addi c0_i32_202 v607
  let c3_i32_200 : BitVec 32 := 3#32
  let c4_i32_203 : BitVec 32 := 4#32
  let v609 : BitVec 32 := Scalar.muli c3_i32_200 c4_i32_203
  let v610 : BitVec 32 := Scalar.addi v608 v609
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_204 : BitVec 32 := 1#32
  let v611 : BitVec 32 := Scalar.muli v8 c1_i32_204
  let v612 : BitVec 32 := Scalar.addi v610 v611
  v612.toNat
abbrev stage0_0 : Fin 1 → Memref sig .tc .vmem S512x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S512x8192 : Shape := ⟨2, ![512, 8192]⟩
abbrev S512x16 : Shape := ⟨2, ![512, 16]⟩
abbrev S_ : Shape := ⟨0, ![]⟩
abbrev S512x16x1 : Shape := ⟨3, ![512, 16, 1]⟩
abbrev S1 : Shape := ⟨1, ![1]⟩
abbrev S1x1x1 : Shape := ⟨3, ![1, 1, 1]⟩

abbrev nBuf : Space → Nat
  | .hbm => 29
  | .vmem => 0
  | .smem => 0
  | _ => 0

abbrev bufTy : (tb : Table) → Fin (tcTables nBuf tb) → BufTy
  | .hbm, ⟨0, _⟩ => ⟨S512x8192, .bf16⟩
  | .hbm, ⟨1, _⟩ => ⟨S512x8192, .f32⟩
  | .hbm, ⟨2, _⟩ => ⟨S512x8192, .f32⟩
  | .hbm, ⟨3, _⟩ => ⟨S512x8192, .i32⟩
  | .hbm, ⟨4, _⟩ => ⟨S512x8192, .f32⟩
  | .hbm, ⟨5, _⟩ => ⟨S512x8192, .i32⟩
  | .hbm, ⟨6, _⟩ => ⟨S512x16, .i32⟩
  | .hbm, ⟨7, _⟩ => ⟨S_, .i32⟩
  | .hbm, ⟨8, _⟩ => ⟨S512x16, .i32⟩
  | .hbm, ⟨9, _⟩ => ⟨S512x16, .i1⟩
  | .hbm, ⟨10, _⟩ => ⟨S_, .i32⟩
  | .hbm, ⟨11, _⟩ => ⟨S512x16, .i32⟩
  | .hbm, ⟨12, _⟩ => ⟨S512x16, .i32⟩
  | .hbm, ⟨13, _⟩ => ⟨S512x16, .i32⟩
  | .hbm, ⟨14, _⟩ => ⟨S512x16x1, .i32⟩
  | .hbm, ⟨15, _⟩ => ⟨S1, .i32⟩
  | .hbm, ⟨16, _⟩ => ⟨S_, .i32⟩
  | .hbm, ⟨17, _⟩ => ⟨S512x16x1, .i32⟩
  | .hbm, ⟨18, _⟩ => ⟨S512x16x1, .i1⟩
  | .hbm, ⟨19, _⟩ => ⟨S1x1x1, .i32⟩
  | .hbm, ⟨20, _⟩ => ⟨S512x16x1, .i32⟩
  | .hbm, ⟨21, _⟩ => ⟨S512x16x1, .i1⟩
  | .hbm, ⟨22, _⟩ => ⟨S512x16x1, .i1⟩
  | .hbm, ⟨23, _⟩ => ⟨S_, .i1⟩
  | .hbm, ⟨24, _⟩ => ⟨S512x16, .i1⟩
  | .hbm, ⟨25, _⟩ => ⟨S512x16, .f32⟩
  | .hbm, ⟨26, _⟩ => ⟨S_, .f32⟩
  | .hbm, ⟨27, _⟩ => ⟨S512x16, .f32⟩
  | .hbm, ⟨28, _⟩ => ⟨S512x16, .f32⟩
  | _, _ => ⟨S512x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_v1_0 : Ref sig .tc := ⟨.hbm, 4, rfl⟩
abbrev main_v2 : Ref sig .tc := ⟨.hbm, 5, rfl⟩
abbrev main_v3 : Ref sig .tc := ⟨.hbm, 6, rfl⟩
abbrev main_call1_c : Ref sig .tc := ⟨.hbm, 7, rfl⟩
abbrev main_call1_v0 : Ref sig .tc := ⟨.hbm, 8, rfl⟩
abbrev main_call1_v1 : Ref sig .tc := ⟨.hbm, 9, rfl⟩
abbrev main_call1_c_0 : Ref sig .tc := ⟨.hbm, 10, rfl⟩
abbrev main_call1_v2 : Ref sig .tc := ⟨.hbm, 11, rfl⟩
abbrev main_call1_v3 : Ref sig .tc := ⟨.hbm, 12, rfl⟩
abbrev main_call1_v4 : Ref sig .tc := ⟨.hbm, 13, rfl⟩
abbrev main_call1_v5 : Ref sig .tc := ⟨.hbm, 14, rfl⟩
abbrev main_call1_c_1 : Ref sig .tc := ⟨.hbm, 15, rfl⟩
abbrev main_call1_c_2 : Ref sig .tc := ⟨.hbm, 16, rfl⟩
abbrev main_call1_v6 : Ref sig .tc := ⟨.hbm, 17, rfl⟩
abbrev main_call1_v7 : Ref sig .tc := ⟨.hbm, 18, rfl⟩
abbrev main_call1_v8 : Ref sig .tc := ⟨.hbm, 19, rfl⟩
abbrev main_call1_v9 : Ref sig .tc := ⟨.hbm, 20, rfl⟩
abbrev main_call1_v10 : Ref sig .tc := ⟨.hbm, 21, rfl⟩
abbrev main_call1_v11 : Ref sig .tc := ⟨.hbm, 22, rfl⟩
abbrev main_call1_c_3 : Ref sig .tc := ⟨.hbm, 23, rfl⟩
abbrev main_call1_v12 : Ref sig .tc := ⟨.hbm, 24, rfl⟩
abbrev main_call1_v13 : Ref sig .tc := ⟨.hbm, 25, rfl⟩
abbrev main_call1_cst : Ref sig .tc := ⟨.hbm, 26, rfl⟩
abbrev main_call1_v14 : Ref sig .tc := ⟨.hbm, 27, rfl⟩
abbrev main_v4 : Ref sig .tc := ⟨.hbm, 28, rfl⟩

abbrev nD : Nat := 1
abbrev τ : Topo := Topo.v7x

variable {F : FTy → Type} [FloatOps F]
-- ==== Proof.CandKernelIdeal.lean ====
/-
What one device computes, in closed form: the band's lane maxima, the sixteen largest values of a row of an
array, and the two arrays of candidates merged. The kernel writes each of these out as a long sequence of
elementwise maxima and selections; here each is one short recursion.
-/
module

public import proofs.«01_k».proof.Proof.Gen.KernelIdeal.Skeleton

@[expose] public section

noncomputable section

namespace Cert.KernelIdeal.Run

open Cert.KernelIdeal Cert.KernelIdeal.Gen
open Idealize.ShloMosaic Idealize.SL.Sem

variable {F : FTy → Type} [FloatOps F]

/-- Minus infinity, the value that takes the place of what has been dropped. -/
def low : F .f32 := Scalar.ofBits .f32 0xFF800000#32

/-- The elements of `v` below those of `m` at the same place; the rest become minus infinity. -/
def drop {s : Shape} (m v : FVec F s .f32) : FVec F s .f32 :=
  select (cmpf .oge v m) (broadcast s low) v

/-- A chunk of 128 columns lies in the band. -/
theorem chunk_slices : ∀ i : Fin 32, S128x4096.Slices ![0, 128 * i.val] S128x128 := by decide +kernel

/-- The `i`-th of the 32 chunks of 128 columns of the band, in f32. -/
def chunk (v : Vec F S128x4096 .bf16) (i : ℕ) : FVec F S128x128 .f32 :=
  extractStridedSlice S128x128 ![0, 128 * (i % 32)] (k0_pay2 v) (chunk_slices ⟨i % 32, Nat.mod_lt _ (by decide)⟩)

/-- The elementwise maximum of the first `n + 1` members of a family of arrays. -/
def lmax {s : Shape} (f : ℕ → FVec F s .f32) : ℕ → FVec F s .f32
  | 0 => f 0
  | n + 1 => maximumf (lmax f n) (f (n + 1))

/-- The chunks after `r` rounds: in each round every lane drops its largest value. -/
def lanes (v : Vec F S128x4096 .bf16) : ℕ → ℕ → FVec F S128x128 .f32
  | 0, i => chunk v i
  | r + 1, i => drop (lmax (lanes v r) 31) (lanes v r i)

/-- The three largest values of each lane, the lanes side by side. -/
def wide (v : Vec F S128x4096 .bf16) : FVec F S128x384 .f32 :=
  concatenate S128x384 1 [⟨S128x128, lmax (lanes v 0) 31⟩, ⟨S128x128, lmax (lanes v 1) 31⟩, ⟨S128x128, lmax (lanes v 2) 31⟩]
    concatenates_S128x128_S128x128_S128x128_S128x384_d1

/-- 128 rows of `n` columns. -/
abbrev wideS (n : ℕ) : Shape := ⟨2, ![128, n]⟩

/-- The largest value of each row, as a column. -/
def rowMax {n : ℕ} (h : (wideS n).Reduces [1] S128) (v : FVec F (wideS n) .f32) : FVec F S128x1 .f32 :=
  shapeCast S128x1 (multiReduction .maximumf [1] S128 v 0xFF800000#32 h (.inl rfl) rfl) shapeCasts_S128_S128x1

/-- The array after `r` rounds, each of which drops the largest value of every row. -/
def rounds {n : ℕ} (h : (wideS n).Reduces [1] S128) (hb : S128x1.Broadcasts (wideS n)) (v : FVec F (wideS n) .f32) : ℕ → FVec F (wideS n) .f32
  | 0 => v
  | r + 1 => drop (broadcastTo (wideS n) (rowMax h (rounds h hb v r)) hb) (rounds h hb v r)

/-- Sixteen columns: the largest value of every row, then the largest below it, and so on. -/
def top {n : ℕ} (h : (wideS n).Reduces [1] S128) (hb : S128x1.Broadcasts (wideS n)) (v : FVec F (wideS n) .f32) : FVec F S128x16 .f32 :=
  concatenate S128x16 1
    [⟨S128x1, rowMax h (rounds h hb v 0)⟩, ⟨S128x1, rowMax h (rounds h hb v 1)⟩, ⟨S128x1, rowMax h (rounds h hb v 2)⟩,
     ⟨S128x1, rowMax h (rounds h hb v 3)⟩, ⟨S128x1, rowMax h (rounds h hb v 4)⟩, ⟨S128x1, rowMax h (rounds h hb v 5)⟩,
     ⟨S128x1, rowMax h (rounds h hb v 6)⟩, ⟨S128x1, rowMax h (rounds h hb v 7)⟩, ⟨S128x1, rowMax h (rounds h hb v 8)⟩,
     ⟨S128x1, rowMax h (rounds h hb v 9)⟩, ⟨S128x1, rowMax h (rounds h hb v 10)⟩, ⟨S128x1, rowMax h (rounds h hb v 11)⟩,
     ⟨S128x1, rowMax h (rounds h hb v 12)⟩, ⟨S128x1, rowMax h (rounds h hb v 13)⟩, ⟨S128x1, rowMax h (rounds h hb v 14)⟩,
     ⟨S128x1, rowMax h (rounds h hb v 15)⟩]
    concatenates_S128x1_S128x1_S128x1_S128x1_S128x1_S128x1_S128x1_S128x1_S128x1_S128x1_S128x1_S128x1_S128x1_S128x1_S128x1_S128x1_S128x16_d1

/-- A band's sixteen candidates per row. -/
def cand (v : Vec F S128x4096 .bf16) : FVec F S128x16 .f32 :=
  top reduces_S128x384_S128 broadcasts_S128x1_S128x384 (wide v)

/-- Two arrays of candidates merged into one. -/
def merge (a b : Vec F S128x16 .f32) : FVec F S128x16 .f32 :=
  top reduces_S128x32_S128 broadcasts_S128x1_S128x32
    (concatenate S128x32 1 [⟨S128x16, a⟩, ⟨S128x16, b⟩] concatenates_S128x16_S128x16_S128x32_d1)

end Cert.KernelIdeal.Run
-- ==== Proof.PlanKernelIdeal.lean ====
/-
The protocol of the exchange: who talks to whom, over which semaphores, with which contents, in which order.

A device is (x, y, z) of a 2 × 4 × 4 mesh. Its partner differs in x only; its peer of row `k` has y = k and the
same x and z. Every device signals the barrier semaphore of its partner and of its three other peers and waits for
four units on its own; it then sends its candidates to the partner, merges what both hold, and sends the merged
candidates to each of the three peers, into the slot of its own y.
-/
module

public import proofs.«01_k».proof.Proof.Gen.KernelIdeal.Launch
public import proofs.«01_k».proof.Proof.CandKernelIdeal
public import Idealize.ShloMosaic.Lib.Pipeline.Launch
public import Idealize.ShloMosaic.Lib.Pipeline.Kit
public import Idealize.ShloMosaic.Lib.Tactic

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost state: the staging pipeline's and the exchange's, whose duties are named by a y coordinate -/

/-- The exchange's ghost state: rounds on the semaphores, their duties named by a y coordinate, -/
abbrev UB : Type := URounds (GSem nD τ sig) (Fin 4)
/-- next to the staging pipeline's. -/
abbrev UU : Type := UR sig nD τ × UB

local notation "𝕄" => MT nD τ sig Unit (Elt F) ℕ UU ℕ

/-- Where the pipeline's ghost state sits in the whole, -/
abbrev EP : Emb (UR sig nD τ) (MT nD τ sig Unit (Elt F) ℕ UU ℕ) := embL
/-- and where the exchange's does. -/
abbrev ER : Emb UB (MT nD τ sig Unit (Elt F) ℕ UU ℕ) := embR

variable (m : (ℓ : Loc nD τ sig) → Buf (Elt F) ℓ) (ρ : Dev nD → PrngReg)

/-- The memory at launch: any contents, all semaphores at zero. -/
def s₀ : MemSt nD τ sig (Elt F) := ⟨m, fun _ => 0, ρ⟩

/-! ## The mesh -/

set_option backward.proofsInPublic true in
/-- A device's y coordinate. -/
def y (c : Dev nD) : Fin 4 := ⟨c.val / 4 % 4, Nat.mod_lt _ (by decide)⟩
set_option backward.proofsInPublic true in
/-- A device's partner: the other x. -/
def pr (c : Dev nD) : Dev nD := ⟨(c.val + 16) % 32, Nat.mod_lt _ (by decide)⟩
set_option backward.proofsInPublic true in
/-- A device's peer with y = `k`: same x and z. -/
def pe (c : Dev nD) (k : Fin 4) : Dev nD := ⟨(c.val / 16 * 16 + k.val * 4 + c.val % 4) % 32, Nat.mod_lt _ (by decide)⟩

/-- The partner's partner is the device itself. -/
theorem pr_pr : ∀ c, pr (pr c) = c := by decide +kernel
/-- Partners have the same y. -/
theorem y_pr : ∀ c, y (pr c) = y c := by decide +kernel
/-- The peer with y = `k` has that y. -/
theorem y_pe : ∀ c k, y (pe c k) = k := by decide +kernel
/-- Peers share their peers. -/
theorem pe_pe : ∀ c k j, pe (pe c k) j = pe c j := by decide +kernel
/-- A device is its own peer at its own y. -/
theorem pe_y : ∀ c, pe c (y c) = c := by decide +kernel

/-- The peer of a peer at the own coordinate is the device itself. -/
theorem pe_back (c : Dev nD) (k : Fin 4) : pe (pe c k) (y c) = c := by rw [pe_pe, pe_y]

/-- The barrier signal to the partner goes there. -/
theorem dev1_eq (c : Dev nD) : (⟨k0_dev1 c, k0_dev1_lt c⟩ : Dev nD) = pr c := by revert c; decide +kernel
/-- The barrier signal to peer 0 goes there. -/
theorem dev2_eq : ∀ (c : Dev nD) (h : k0_cond1 c = 1#1), (⟨k0_dev2 c, k0_dev2_lt c h⟩ : Dev nD) = pe c 0 := by decide +kernel
/-- The barrier signal to peer 1 goes there. -/
theorem dev3_eq : ∀ (c : Dev nD) (h : k0_cond2 c = 1#1), (⟨k0_dev3 c, k0_dev3_lt c h⟩ : Dev nD) = pe c 1 := by decide +kernel
/-- The barrier signal to peer 2 goes there. -/
theorem dev4_eq : ∀ (c : Dev nD) (h : k0_cond3 c = 1#1), (⟨k0_dev4 c, k0_dev4_lt c h⟩ : Dev nD) = pe c 2 := by decide +kernel
/-- The barrier signal to peer 3 goes there. -/
theorem dev5_eq : ∀ (c : Dev nD) (h : k0_cond4 c = 1#1), (⟨k0_dev5 c, k0_dev5_lt c h⟩ : Dev nD) = pe c 3 := by decide +kernel
/-- The copy to the partner goes there. -/
theorem dev6_eq (c : Dev nD) : (⟨k0_dev6 c, k0_dev6_lt c⟩ : Dev nD) = pr c := by revert c; decide +kernel
/-- The copy to peer 0 goes there. -/
theorem dev7_eq : ∀ (c : Dev nD) (h : k0_cond5 c = 1#1), (⟨k0_dev7 c, k0_dev7_lt c h⟩ : Dev nD) = pe c 0 := by decide +kernel
/-- The copy to peer 1 goes there. -/
theorem dev8_eq : ∀ (c : Dev nD) (h : k0_cond6 c = 1#1), (⟨k0_dev8 c, k0_dev8_lt c h⟩ : Dev nD) = pe c 1 := by decide +kernel
/-- The copy to peer 2 goes there. -/
theorem dev9_eq : ∀ (c : Dev nD) (h : k0_cond7 c = 1#1), (⟨k0_dev9 c, k0_dev9_lt c h⟩ : Dev nD) = pe c 2 := by decide +kernel
/-- The copy to peer 3 goes there. -/
theorem dev10_eq : ∀ (c : Dev nD) (h : k0_cond8 c = 1#1), (⟨k0_dev10 c, k0_dev10_lt c h⟩ : Dev nD) = pe c 3 := by decide +kernel

/-- The barrier of peer 0 is signalled by the devices of another y. -/
theorem cond1_iff : ∀ c : Dev nD, k0_cond1 c = 1#1 ↔ 0 ≠ y c := by decide +kernel
/-- The barrier of peer 1 is signalled by the devices of another y. -/
theorem cond2_iff : ∀ c : Dev nD, k0_cond2 c = 1#1 ↔ 1 ≠ y c := by decide +kernel
/-- The barrier of peer 2 is signalled by the devices of another y. -/
theorem cond3_iff : ∀ c : Dev nD, k0_cond3 c = 1#1 ↔ 2 ≠ y c := by decide +kernel
/-- The barrier of peer 3 is signalled by the devices of another y. -/
theorem cond4_iff : ∀ c : Dev nD, k0_cond4 c = 1#1 ↔ 3 ≠ y c := by decide +kernel
/-- The copy to peer 0 is sent by the devices of another y. -/
theorem cond5_iff : ∀ c : Dev nD, k0_cond5 c = 1#1 ↔ 0 ≠ y c := by decide +kernel
/-- The copy to peer 1 is sent by the devices of another y. -/
theorem cond6_iff : ∀ c : Dev nD, k0_cond6 c = 1#1 ↔ 1 ≠ y c := by decide +kernel
/-- The copy to peer 2 is sent by the devices of another y. -/
theorem cond7_iff : ∀ c : Dev nD, k0_cond7 c = 1#1 ↔ 2 ≠ y c := by decide +kernel
/-- The copy to peer 3 is sent by the devices of another y. -/
theorem cond8_iff : ∀ c : Dev nD, k0_cond8 c = 1#1 ↔ 3 ≠ y c := by decide +kernel

/-- The y coordinate as the kernel computes it. -/
abbrev yW (c : Dev nD) : BitVec 32 := Scalar.remsi (Scalar.divsi (Dev.word c) 4#32) 4#32

/-- The comparison that guards the exchange with peer `k` is 1 exactly for another y than the device's own, -/
theorem ne_iff : ∀ (c : Dev nD) (k : Fin 4),
    Scalar.cmpi .ne (Scalar.extui (Scalar.cmpi .ne (yW c) (BitVec.ofNat 32 k.val)) : BitVec 32) 0#32 = 1#1 ↔ k ≠ y c := by decide +kernel
/-- and the one that chooses the device's own band exactly for its own. -/
theorem eq_iff : ∀ (c : Dev nD) (k : Fin 4), Scalar.cmpi .eq (yW c) (BitVec.ofNat 32 k.val) = if k = y c then 1#1 else 0#1 := by decide +kernel

/-- The band that is read starts at row 128 y. -/
theorem off1_y : ∀ c : Dev nD, k0_off1 c = ![128 * (y c).val, 0] := by decide +kernel
/-- The copy to peer 0 credits the arrival semaphore of the own y there, -/
theorem off2_y : ∀ c : Dev nD, k0_off2 c = ![(y c).val] := by decide +kernel
/-- and lands in the slot of the own y. -/
theorem off3_y : ∀ c : Dev nD, k0_off3 c = ![(y c).val, 0, 0] := by decide +kernel
/-- The copy to peer 1 credits the arrival semaphore of the own y there, -/
theorem off4_y : ∀ c : Dev nD, k0_off4 c = ![(y c).val] := by decide +kernel
/-- and lands in the slot of the own y. -/
theorem off5_y : ∀ c : Dev nD, k0_off5 c = ![(y c).val, 0, 0] := by decide +kernel
/-- The copy to peer 2 credits the arrival semaphore of the own y there, -/
theorem off6_y : ∀ c : Dev nD, k0_off6 c = ![(y c).val] := by decide +kernel
/-- and lands in the slot of the own y. -/
theorem off7_y : ∀ c : Dev nD, k0_off7 c = ![(y c).val, 0, 0] := by decide +kernel
/-- The copy to peer 3 credits the arrival semaphore of the own y there, -/
theorem off8_y : ∀ c : Dev nD, k0_off8 c = ![(y c).val] := by decide +kernel
/-- and lands in the slot of the own y. -/
theorem off9_y : ∀ c : Dev nD, k0_off9 c = ![(y c).val, 0, 0] := by decide +kernel

/-! ## The buffers -/

/-- The staged argument, -/
abbrev xM : Memref sig .tc .vmem S512x4096 .bf16 := Memref.whole cc0_stg0_0
/-- the staged result, -/
abbrev oM : Memref sig .tc .vmem S512x16 .f32 := Memref.whole cc0_stg1_0
/-- the own candidates, -/
abbrev cM : Memref sig .tc .vmem S128x16 .f32 := Memref.whole cc0_scratch0
/-- the partner's candidates, -/
abbrev pM : Memref sig .tc .vmem S128x16 .f32 := Memref.whole cc0_scratch1
/-- the merged candidates, -/
abbrev rM : Memref sig .tc .vmem S128x16 .f32 := Memref.whole cc0_scratch2
/-- and the four slots for the peers' merged candidates. -/
abbrev bM : Memref sig .tc .vmem S4x128x16 .f32 := Memref.whole cc0_scratch3

/-- A slot lies within the four. -/
theorem slot_inb : ∀ (k : Fin 4) (a : Fin 3), (![k.val, 0, 0] : Fin 3 → ℕ) a + S1x128x16.size a ≤ S4x128x16.size a := by decide +kernel

/-- Slot `k` of the gathered results, as the kernel slices it at an offset. -/
abbrev slotAt (off : Fin 3 → ℕ) (h : ∀ a, off a + S1x128x16.size a ≤ S4x128x16.size a) : Memref sig .tc .vmem S128x16 .f32 :=
  (bM.slice (Rect.unit (s := S4x128x16) off S1x128x16.size h) (fun _ => rfl)).squeeze S128x16 squeezes_S1x128x16_S128x16
/-- Slot `k`, as an array of its own. -/
abbrev slotM (k : Fin 4) : Memref sig .tc .vmem S128x16 .f32 := slotAt ![k.val, 0, 0] (slot_inb k)

/-- A memref's elements on a device, at contents `f`. -/
def own {sp : Space} {s : Shape} {e : EltTy} (M : Memref sig .tc sp s e) (c : Dev nD) (f : Buf (Elt F) (M.view.loc (c : Thread nD τ))) : sProp 𝕄 :=
  M.view.loc (c : Thread nD τ) ↦[M.view.set]{fullShare} f

omit [FloatOps F] in
/-- A whole array may be handed over as a payload. -/
instance own_storable {sp : Space} {s : Shape} {e : EltTy} (M : Memref sig .tc sp s e) (c : Dev nD) (f) :
    BI.Storable (upEmb : UEmb _ 𝕄) (own (F := F) M c f) := by unfold own; infer_instance

omit [FloatOps F] in
/-- A whole array is its buffer at its contents. -/
theorem own_whole (c : Dev nD) (b : Ref sig .tc) (f : Buf (Elt F) ((c : Thread nD τ).loc b)) :
    own (Memref.whole b) c f = (((c : Thread nD τ).loc b) ↦{fullShare} f : sProp 𝕄) := by
  unfold own; rw [View.set_whole]

/-! ## The semaphores -/

/-- The barrier semaphore. -/
abbrev barS : Sem sig := (SemArray.scalar (sig.barrier 0 rfl) : Sems sig S_).sem

/-- The semaphores on which a transfer's departure and its arrival are counted: towards the partner, -/
abbrev xsQ : DmaSem sig := (2 : Fin 12)
/-- and of the arrival from it; -/
abbrev xrQ : DmaSem sig := (3 : Fin 12)
/-- and, of each y coordinate, towards the peers. -/
abbrev ysQ (k : Fin 4) : DmaSem sig := (⟨k.val + 4, by omega⟩ : Fin 12)
/-- and the arrivals from them. -/
abbrev yrQ (k : Fin 4) : DmaSem sig := (⟨k.val + 8, by omega⟩ : Fin 12)

/-- The semaphores that the program names are these: of the departure to the partner, -/
theorem xs_sem : cc0_scratch4.sem = xsQ := rfl
/-- of the arrival from it, -/
theorem xr_sem : cc0_scratch5.sem = xrQ := rfl
/-- of the departure to peer 0, -/
theorem ys_sem0 : ((cc0_scratch6.slice (Rect.unit (s := S4) ![0] S1.size inb_S4_S1_0)).squeeze S_ squeezes_S1_S_).sem = ysQ 0 := by decide +kernel
/-- to peer 1, -/
theorem ys_sem1 : ((cc0_scratch6.slice (Rect.unit (s := S4) ![1] S1.size inb_S4_S1_1)).squeeze S_ squeezes_S1_S_).sem = ysQ 1 := by decide +kernel
/-- to peer 2, -/
theorem ys_sem2 : ((cc0_scratch6.slice (Rect.unit (s := S4) ![2] S1.size inb_S4_S1_2)).squeeze S_ squeezes_S1_S_).sem = ysQ 2 := by decide +kernel
/-- to peer 3, -/
theorem ys_sem3 : ((cc0_scratch6.slice (Rect.unit (s := S4) ![3] S1.size inb_S4_S1_3)).squeeze S_ squeezes_S1_S_).sem = ysQ 3 := by decide +kernel

/-- (each is one of four) -/
theorem yr_inb : ∀ (k : Fin 4) (a : Fin 1), (![k.val] : Fin 1 → ℕ) a + S1.size a ≤ S4.size a := by decide +kernel
/-- and of the arrival from peer `k`. -/
theorem yr_semK : ∀ k : Fin 4, ((cc0_scratch7.slice (Rect.unit (s := S4) ![k.val] S1.size (yr_inb k))).squeeze S_ squeezes_S1_S_).sem = yrQ k := by
  decide +kernel
/-- The arrival semaphore sliced at an offset that is coordinate `k`. -/
theorem yr_sem (k : Fin 4) (off : Fin 1 → ℕ) (h : ∀ a, off a + S1.size a ≤ S4.size a) (e : off = ![k.val]) :
    ((cc0_scratch7.slice (Rect.unit (s := S4) off S1.size h)).squeeze S_ squeezes_S1_S_).sem = yrQ k := by subst e; exact yr_semK k

/-- The eleven semaphores of the exchange: the barrier, then the ten of the transfers; -/
abbrev csem : Fin 11 → SemLoc sig
  | ⟨0, _⟩ => .reg barS
  | ⟨n + 1, h⟩ => .dma (⟨n + 2, by omega⟩ : Fin 12)
/-- the ten alone. -/
abbrev osem (i : Fin 10) : SemLoc sig := .dma (⟨i.val + 2, by omega⟩ : Fin 12)

/-- The departure to the partner, among a device's eleven cells, -/
abbrev xsI : Fin 11 := 1
/-- the arrival from it, -/
abbrev xrI : Fin 11 := 2
/-- the departure to peer `k`, -/
abbrev ysI (k : Fin 4) : Fin 11 := ⟨k.val + 3, by omega⟩
/-- and the arrival from it. -/
abbrev yrI (k : Fin 4) : Fin 11 := ⟨k.val + 7, by omega⟩

/-- Every cell of the exchange, by device and number: -/
abbrev kcell (ck : Dev nD × Fin 11) : GSem nD τ sig := ((ck.1 : Thread nD τ), csem ck.2)
/-- the barrier, -/
abbrev barC (c : Dev nD) : GSem nD τ sig := ((c : Thread nD τ), .reg barS)
/-- the departure to the partner, -/
abbrev xsC (c : Dev nD) : GSem nD τ sig := ((c : Thread nD τ), .dma xsQ)
/-- the arrival from it, -/
abbrev xrC (c : Dev nD) : GSem nD τ sig := ((c : Thread nD τ), .dma xrQ)
/-- the departures to the peers, -/
abbrev ysC (c : Dev nD) (k : Fin 4) : GSem nD τ sig := ((c : Thread nD τ), .dma (ysQ k))
/-- and the arrivals from them. -/
abbrev yrC (c : Dev nD) (k : Fin 4) : GSem nD τ sig := ((c : Thread nD τ), .dma (yrQ k))

/-- Number 0 is the barrier, -/
theorem kcell_bar (c : Dev nD) : kcell (c, 0) = barC c := rfl
/-- then the departure to the partner, -/
theorem kcell_xs (c : Dev nD) : kcell (c, xsI) = xsC c := rfl
/-- the arrival from it, -/
theorem kcell_xr (c : Dev nD) : kcell (c, xrI) = xrC c := rfl
/-- the departures to the peers, -/
theorem kcell_ys (c : Dev nD) (k : Fin 4) : kcell (c, ysI k) = ysC c k := rfl
/-- and the arrivals from them. -/
theorem kcell_yr (c : Dev nD) (k : Fin 4) : kcell (c, yrI k) = yrC c k := rfl

/-- What one transfer of an array of candidates counts for. -/
abbrev N : ℕ := (cM : Memref sig .tc .vmem S128x16 .f32).view.dmaCredit
/-- A copy credits something. -/
theorem N_pos : 0 < N := View.dmaCredit_pos _ (by decide)

/-! ## The contents -/

/-- A device's block of the argument. -/
def xstg (c : Dev nD) : (cc0_stg0_0 : Ref sig .tc).ty.Contents (Elt F) :=
  (win0_0.blk (0 : Fin 1)).view.read (Elt F) ((s₀ m ρ).mem ((c : Thread nD τ).loc main_arg0))

/-- The band of rows a device works on: those of its y coordinate. -/
def band (c : Dev nD) : Vec F S128x4096 .bf16 :=
  xM.view.readAt (Elt F) (Rect.unit (s := S512x4096) (k0_off1 c) S128x4096.size (k0_off1_inb c)).toLoadRect (xstg m ρ c)

/-- A device's candidates, -/
def candAt (c : Dev nD) : Vec F S128x16 .f32 := cand (band m ρ c)
/-- and those merged with its partner's. -/
def resAt (c : Dev nD) : Vec F S128x16 .f32 := merge (candAt m ρ c) (candAt m ρ (pr c))

/-- The place in its band of a place of the result. -/
def inBand (i : S512x16.Idx) : S128x16.Idx := fun a => match a with
  | ⟨0, _⟩ => ⟨(i 0).val % 128, Nat.mod_lt _ (by decide)⟩
  | ⟨1, _⟩ => i 1

/-- The result: the merged candidates of the peer of each band, band by band. -/
def outAt (c : Dev nD) : Vec F S512x16 .f32 := fun i =>
  resAt m ρ (pe c ⟨(i 0).val / 128 % 4, Nat.mod_lt _ (by decide)⟩) (inBand i)

/-! ## The schedule -/

/-- Slot `k` of the gathered results of device `c`, at any contents. -/
def slotAny (c : Dev nD) (k : Fin 4) : sProp 𝕄 := iprop(∃ f, own (slotM k) c f)

/-- What the signal of coordinate `j` hands device `c`: its partner's landing buffer, or the slot that is to take `c`'s
    result on its peer of row `j`. -/
def barPay (c : Dev nD) (j : Fin 4) : sProp 𝕄 :=
  if j = y c then iprop(∃ f, own pM (pr c) f) else slotAny (pe c j) (y c)
/-- What the arrival from the peer of row `k` hands device `c`: the slot, holding that peer's merged candidates. -/
def slotPay (c : Dev nD) (k : Fin 4) : sProp 𝕄 :=
  iprop(∃ f, ⌜(slotM k).view.read (Elt F) f = resAt m ρ (pe c k)⌝ ∗ own (slotM k) c f)

/-- The coordinate a semaphore belongs to. -/
def yOf (q : DmaSem sig) : Fin 4 := ⟨q.val % 4, Nat.mod_lt _ (by decide)⟩
/-- The peer of a departure's semaphore, -/
theorem yOf_ys : ∀ k, yOf (ysQ k) = k := by decide
/-- and of an arrival's. -/
theorem yOf_yr : ∀ k, yOf (yrQ k) = k := by decide

/-- What a transfer hands over: on departure the source, on arrival the destination holding what the source held. -/
def dmaPay (c : Dev nD) (q : DmaSem sig) : sProp 𝕄 :=
  if q = xsQ then own cM c (candAt m ρ c) else if q = xrQ then own pM c (candAt m ρ (pr c))
  else if q.val < 8 then own rM c (resAt m ρ c) else slotPay m ρ c (yOf q)

/-- Whether a semaphore of device `c` counts a transfer. -/
abbrev Busy (c : Dev nD) (q : DmaSem sig) : Prop := q = xsQ ∨ q = xrQ ∨ (4 ≤ q.val ∧ yOf q ≠ y c)

/-- One round: four signals on a barrier semaphore, one transfer on each of the others that count one. -/
def Rd : Rounds.Schedule (GSem nD τ sig) (Fin 4) 𝕄 where
  duties g r := if r = 0 ∧ g.1.2 = .tc then
      (match g.2 with | .reg _ => Finset.univ | .dma q => if Busy g.1.1 q then {0} else ∅) else ∅
  unitless _ := False
  amount g _ _ := match g.2 with | .reg _ => 1 | .dma _ => N
  payload g _ d := match g.2 with
    | .reg _ => barPay g.1.1 d
    | .dma q => dmaPay m ρ g.1.1 q
  amount_pos g _ _ _ := by
    obtain ⟨t, sm⟩ := g
    cases sm
    · exact Nat.one_pos
    · exact N_pos

/-- Every payload may be handed over. -/
instance Rd_payload_storable (g : GSem nD τ sig) (r : ℕ) (d : Fin 4) : BI.Storable (upEmb : UEmb _ 𝕄) ((Rd (F := F) m ρ).payload g r d) := by
  obtain ⟨t, sm⟩ := g
  cases sm with
  | reg s =>
    show BI.Storable upEmb (barPay t.1 d)
    unfold barPay slotAny
    split <;> infer_instance
  | dma q =>
    show BI.Storable upEmb (dmaPay m ρ t.1 q)
    unfold dmaPay slotPay
    (repeat' split) <;> infer_instance

section Schedule
variable (c : Dev nD)

/-- The barrier has a duty for each of the four that signal it; -/
theorem duties_bar : (Rd (F := F) m ρ).duties (barC c) 0 = Finset.univ := by
  dsimp only [Rd]; exact if_pos ⟨rfl, rfl⟩
/-- no cell has a second round; -/
theorem duties_later (g : GSem nD τ sig) : ∀ r, 1 ≤ r → (Rd (F := F) m ρ).duties g r = ∅ := fun r hr => if_neg fun h => by omega
/-- a copy's semaphore that is in use has one duty, -/
theorem duties_busy {q : DmaSem sig} (h : Busy c q) : (Rd (F := F) m ρ).duties ((c : Thread nD τ), .dma q) 0 = {0} := by
  dsimp only [Rd]; rw [if_pos ⟨rfl, rfl⟩, if_pos h]
/-- and one that is not has none. -/
theorem duties_idle {q : DmaSem sig} (h : ¬ Busy c q) : ∀ r, (Rd (F := F) m ρ).duties ((c : Thread nD τ), .dma q) r = ∅ := fun r => by
  dsimp only [Rd]; rw [if_neg h]; exact ite_self _
/-- A signal of the barrier is one unit, -/
theorem amount_bar (d : Fin 4) : (Rd (F := F) m ρ).amount (barC c) 0 d = 1 := rfl
/-- and a copy pays its credit. -/
theorem amount_dma (q : DmaSem sig) (d : Fin 4) : (Rd (F := F) m ρ).amount ((c : Thread nD τ), .dma q) 0 d = N := rfl

/-- The barrier expects four units, -/
theorem expect_bar : (Rd (F := F) m ρ).expect (barC c) 0 = 4 := by
  unfold Schedule.expect Schedule.amountOf
  rw [duties_bar, Finset.sum_congr rfl fun d _ => amount_bar m ρ c d, Finset.sum_const, Finset.card_univ, Fintype.card_fin, smul_eq_mul]
/-- and a copy's semaphore one copy's credit. -/
theorem expect_busy {q : DmaSem sig} (h : Busy c q) : (Rd (F := F) m ρ).expect ((c : Thread nD τ), .dma q) 0 = N := by
  unfold Schedule.expect Schedule.amountOf; rw [duties_busy m ρ c h, Finset.sum_singleton, amount_dma]

/-- What the barrier's signal `d` hands over; -/
theorem payload_bar (d : Fin 4) : (Rd (F := F) m ρ).payload (barC c) 0 d = barPay c d := rfl
/-- the departure to the partner hands the candidates back, -/
theorem payload_xs (d : Fin 4) : (Rd (F := F) m ρ).payload (xsC c) 0 d = own cM c (candAt m ρ c) := by
  show dmaPay m ρ c xsQ = _; unfold dmaPay; rw [if_pos rfl]
/-- the arrival from it brings the partner's candidates; -/
theorem payload_xr (d : Fin 4) : (Rd (F := F) m ρ).payload (xrC c) 0 d = own pM c (candAt m ρ (pr c)) := by
  show dmaPay m ρ c xrQ = _; unfold dmaPay; rw [if_neg (by decide), if_pos rfl]
/-- (a departure to a peer is none of those) -/
theorem ys_ne : ∀ k, ysQ k ≠ xsQ ∧ ysQ k ≠ xrQ ∧ (ysQ k).val < 8 := by decide
/-- (nor is an arrival from one) -/
theorem yr_ne : ∀ k, yrQ k ≠ xsQ ∧ yrQ k ≠ xrQ ∧ ¬ (yrQ k).val < 8 := by decide
/-- the departure to a peer hands the merged candidates back, -/
theorem payload_ys (k d : Fin 4) : (Rd (F := F) m ρ).payload (ysC c k) 0 d = own rM c (resAt m ρ c) := by
  show dmaPay m ρ c (ysQ k) = _; unfold dmaPay; rw [if_neg (ys_ne k).1, if_neg (ys_ne k).2.1, if_pos (ys_ne k).2.2]
/-- and the arrival from it brings its slot, filled. -/
theorem payload_yr (k d : Fin 4) : (Rd (F := F) m ρ).payload (yrC c k) 0 d = slotPay m ρ c k := by
  show dmaPay m ρ c (yrQ k) = _; unfold dmaPay; rw [if_neg (yr_ne k).1, if_neg (yr_ne k).2.1, if_neg (yr_ne k).2.2, yOf_yr]

/-- In use are the departure to the partner, -/
theorem busy_xs : Busy c xsQ := .inl rfl
/-- the arrival from it, -/
theorem busy_xr : Busy c xrQ := .inr (.inl rfl)
/-- the departures to the other three peers, -/
theorem busy_ys : ∀ {c : Dev nD} {k}, k ≠ y c → Busy c (ysQ k) := fun {c k} h => .inr (.inr ⟨Nat.le_add_left _ _, by rw [yOf_ys]; exact h⟩)
/-- and the arrivals from them; -/
theorem busy_yr : ∀ {c : Dev nD} {k}, k ≠ y c → Busy c (yrQ k) := fun {c k} h => .inr (.inr ⟨by show 4 ≤ k.val + 8; omega, by rw [yOf_yr]; exact h⟩)
/-- not in use are the departure to oneself -/
theorem idle_ys : ∀ {c : Dev nD} {k}, k = y c → ¬ Busy c (ysQ k) := fun {c k} h hb => by
  rcases hb with hb | hb | hb
  exacts [(ys_ne k).1 hb, (ys_ne k).2.1 hb, hb.2 ((yOf_ys k).trans h)]
/-- and the arrival from oneself. -/
theorem idle_yr : ∀ {c : Dev nD} {k}, k = y c → ¬ Busy c (yrQ k) := fun {c k} h hb => by
  rcases hb with hb | hb | hb
  exacts [(yr_ne k).1 hb, (yr_ne k).2.1 hb, hb.2 ((yOf_yr k).trans h)]

/-- All the payloads of a transfer's semaphore: the one. -/
theorem rest_busy {q : DmaSem sig} (h : Busy c q) {P : sProp 𝕄} (hP : (Rd (F := F) m ρ).payload ((c : Thread nD τ), .dma q) 0 0 = P) :
    bigSep ((Rd (F := F) m ρ).duties ((c : Thread nD τ), .dma q) 0 \ ∅) (fun d => (Rd (F := F) m ρ).payload ((c : Thread nD τ), .dma q) 0 d) = P := by
  rw [Finset.sdiff_empty, duties_busy m ρ c h, bigSep_singleton, hP]
/-- What is still to come at the barrier before its first duty is all of it. -/
theorem rest_bar : bigSep ((Rd (F := F) m ρ).duties (barC c) 0 \ ∅) (fun d => (Rd (F := F) m ρ).payload (barC c) 0 d) = bigSep Finset.univ (barPay c) := by
  rw [Finset.sdiff_empty, duties_bar]; rfl

end Schedule

end Cert.KernelIdeal.Run
-- ==== Proof.StepsKernelIdeal.lean ====
/-
The steps of the exchange, each proved once for a symbolic device and, where there is one per peer, once for a
symbolic coordinate `k`: a signal, a transfer with the wait for its departure, a wait for an arrival. A step towards
the device's own coordinate is skipped by the kernel; `off` holds what such a step would have needed.
-/
module

public import proofs.«01_k».proof.Proof.PlanKernelIdeal

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device owes, and the order of the waits -/

/-- What device `c` owes its peer of row `k`: the arrival of its merged candidates, -/
def owedY (c : Dev nD) (k : Fin 4) : CellTallies nD τ sig Unit := if k = y c then 0 else tallyAt (yrC (pe c k) (y c)) () N
/-- its partner: the arrival of its candidates, -/
def owedX (c : Dev nD) : CellTallies nD τ sig Unit := tallyAt (xrC (pr c)) () N
/-- and each of them: a signal. -/
def owedB (c : Dev nD) (k : Fin 4) : CellTallies nD τ sig Unit := if k = y c then 0 else tallyAt (barC (pe c k)) () 1
/-- The signal of the partner's barrier that a device owes. -/
def owedP (c : Dev nD) : CellTallies nD τ sig Unit := tallyAt (barC (pr c)) () 1

/-- What is owed once the partner has been sent to; -/
def O₂ (c : Dev nD) : CellTallies nD τ sig Unit := 0 + owedY c 3 + owedY c 2 + owedY c 1 + owedY c 0
/-- once all signals have been given; -/
def O₁ (c : Dev nD) : CellTallies nD τ sig Unit := O₂ c + owedX c
/-- at launch. -/
def O₀ (c : Dev nD) : CellTallies nD τ sig Unit := O₁ c + owedB c 3 + owedB c 2 + owedB c 1 + owedB c 0 + owedP c

/-- One kind of credit, on the devices' main cores. -/
def L (g : GSem nD τ sig) : Finset Unit := if g.1.2 = .tc then {()} else ∅
/-- The levels: barrier, then the partner's arrival, then the peers' arrivals; departures and staging below. -/
def lv (g : GSem nD τ sig) (_ : Unit) : ℕ :=
  match g.2 with | .reg _ => 1 | .dma q => if q = xrQ then 2 else if 8 ≤ q.val then 3 else 0

/-- None elsewhere, -/
theorem L_of_ne (g : GSem nD τ sig) (h : g.1.2 ≠ .tc) : L g = ∅ := if_neg h
/-- and the one there. -/
theorem L_tc (c : Dev nD) (sm : SemLoc sig) : L ((c : Thread nD τ), sm) = {()} := if_pos rfl

/-- Everything owed in `O` lies above level `n`. -/
def Above (n : ℕ) (O : CellTallies nD τ sig Unit) : Prop := ∀ g u, 0 < O g u → g.1.2 = .tc ∧ n < lv g u

/-- Nothing owed is above any level; -/
theorem above_zero (n : ℕ) : Above n 0 := fun g u h => absurd h (Nat.lt_irrefl 0)
/-- two debts above a level are so together; -/
theorem above_add {n : ℕ} {O O' : CellTallies nD τ sig Unit} (h : Above n O) (h' : Above n O') : Above n (O + O') := fun g u hg => by
  rw [Pi.add_apply, Finsupp.add_apply] at hg
  rcases Nat.pos_of_ne_zero (Nat.ne_of_gt hg) |> Nat.add_pos_iff_pos_or_pos.mp with h1 | h1
  exacts [h g u h1, h' g u h1]
/-- a debt to one cell is above what lies below that cell; -/
theorem above_tally {n : ℕ} (c : Dev nD) (sm : SemLoc sig) (a : ℕ) (h : n < lv ((c : Thread nD τ), sm) ()) :
    Above n (tallyAt ((c : Thread nD τ), sm) () a) := fun g u hg => by
  rw [tallyAt_apply] at hg
  by_cases hc : g = ((c : Thread nD τ), sm) ∧ u = ()
  · rw [hc.1]; exact ⟨rfl, h⟩
  · rw [if_neg hc] at hg; exact absurd hg (Nat.lt_irrefl 0)
/-- and what is above a level is above a lower one. -/
theorem above_mono {n n' : ℕ} (h : n ≤ n') {O : CellTallies nD τ sig Unit} (hO : Above n' O) : Above n O :=
  fun g u hg => ⟨(hO g u hg).1, Nat.lt_of_le_of_lt h (hO g u hg).2⟩

/-- An arrival from a peer has level 3. -/
theorem lv_yr : ∀ k, (if yrQ k = xrQ then 2 else if 8 ≤ (yrQ k).val then 3 else 0) = 3 := by decide
/-- The copies to the peers lie above the partner's arrival, -/
theorem above_Y (c : Dev nD) (k : Fin 4) : Above 2 (owedY c k) := by
  unfold owedY; split
  · exact above_zero 2
  · exact above_tally _ _ _ (by show 2 < (if yrQ (y c) = xrQ then 2 else if 8 ≤ (yrQ (y c)).val then 3 else 0); rw [lv_yr]; decide)
/-- the copy to the partner above the barrier, -/
theorem above_X (c : Dev nD) : Above 1 (owedX c) := above_tally _ _ _ (by dsimp only [lv]; rw [if_pos rfl]; decide)
/-- and the barrier signals to the peers -/
theorem above_B (c : Dev nD) (k : Fin 4) : Above 0 (owedB c k) := by
  unfold owedB; split
  · exact above_zero 0
  · exact above_tally _ _ _ Nat.one_pos
/-- and to the partner above the departures. -/
theorem above_P (c : Dev nD) : Above 0 (owedP c) := above_tally _ _ _ Nat.one_pos
/-- So what is owed after the copy to the partner is above level 2, -/
theorem above_O₂ (c : Dev nD) : Above 2 (O₂ c) :=
  above_add (above_add (above_add (above_add (above_zero 2) (above_Y c 3)) (above_Y c 2)) (above_Y c 1)) (above_Y c 0)
/-- before it above level 1, -/
theorem above_O₁ (c : Dev nD) : Above 1 (O₁ c) := above_add (above_mono (by decide) (above_O₂ c)) (above_X c)
/-- and at the start above level 0. -/
theorem above_O₀ (c : Dev nD) : Above 0 (O₀ c) :=
  above_add (above_add (above_add (above_add (above_add (above_mono (by decide) (above_O₁ c)) (above_B c 3)) (above_B c 2)) (above_B c 1)) (above_B c 0)) (above_P c)

omit [FloatOps F] in
/-- A device may wait on a semaphore whose level nothing owed is at or below. -/
theorem may_wait (c : Dev nD) (sm : SemLoc sig) (n : ℕ) {O : CellTallies nD τ sig Unit} (hO : Above n O) (hs : lv ((c : Thread nD τ), sm) () ≤ n) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by rw [show L g = {()} from if_pos (hO g u hg).1]; exact Finset.mem_singleton_self _)
    (fun p hp => by rw [Finset.mem_singleton.mp hp]; exact hs)
    (fun g u hg => (hO g u hg).2)

/-! ## What a device holds on the way -/

/-- The program has no loop that needs a measure. -/
abbrev 𝒱₀ : Variants := Variants.none

/-- A device runs a program of the kernel. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- `Φ`, unless `k` is the device's own coordinate. -/
def off (c : Dev nD) (k : Fin 4) (Φ : sProp 𝕄) : sProp 𝕄 := if k = y c then iprop(emp) else Φ

/-- Every semaphore's invariant, at the names `K`, and that its round 0 is open. -/
def records (K : Dev nD × Fin 11 → ℕ) : sProp 𝕄 :=
  bigSep Finset.univ fun ck => iprop(cellInv ER (Rd m ρ) (K ck) (kcell ck) ∗ reached ER (kcell ck) 0)

/-- The invariants stay. -/
instance records_persistent (K : Dev nD × Fin 11 → ℕ) : BI.Persistent (records m ρ K) := by unfold records; infer_instance

/-- Of all invariants, one cell's and its first round, -/
theorem rec_at (K : Dev nD × Fin 11 → ℕ) (ck : Dev nD × Fin 11) :
    records m ρ K ⊢ iprop(cellInv ER (Rd m ρ) (K ck) (kcell ck) ∗ reached ER (kcell ck) 0) :=
  bigSep_elim (Finset.mem_univ ck)
/-- the invariant alone, -/
theorem rec_inv (K : Dev nD × Fin 11 → ℕ) (ck : Dev nD × Fin 11) : records m ρ K ⊢ cellInv ER (Rd m ρ) (K ck) (kcell ck) := by
  iintro H; ihave H' := (rec_at m ρ K ck) $$ H; icases H' with ⟨H, -⟩; iexact H
/-- and the round alone. -/
theorem rec_reached (K : Dev nD × Fin 11 → ℕ) (ck : Dev nD × Fin 11) : records m ρ K ⊢ reached ER (kcell ck) 0 := by
  iintro H; ihave H' := (rec_at m ρ K ck) $$ H; icases H' with ⟨-, H⟩; iexact H

/-- What the device still owes. -/
def owing (c : Dev nD) (O : CellTallies nD τ sig Unit) : sProp 𝕄 := iprop(∃ W, owes (c : Thread nD τ) O W)
/-- The device is done with a semaphore of its own: no round is open any more. -/
def fin (c : Dev nD) (i : Fin 11) : sProp 𝕄 :=
  iprop(∃ R, ⌜∀ r, R ≤ r → (Rd (F := F) m ρ).duties (kcell (c, i)) r = ∅⌝ ∗ atPos ER (kcell (c, i)) R ∅ 0)
/-- The slot of the peer of row `k` after its arrival: that peer's merged candidates, unless it is the device's own. -/
def slotGot (c : Dev nD) (k : Fin 4) : sProp 𝕄 :=
  iprop(∃ f, ⌜k ≠ y c → (slotM k).view.read (Elt F) f = resAt m ρ (pe c k)⌝ ∗ own (slotM k) c f)

variable (K : Dev nD × Fin 11 → ℕ)

/-! ## Signals -/

/-- The signal to the partner. -/
theorem step_signal_partner (c d : Dev nD) (hd : d = pr c) (O : CellTallies nD τ sig Unit) {α : Type} {Kt : Prog (TpuEff nD τ sig (Elt F) Λ₀ .tc) α} {Q : α → sProp 𝕄} :
    iprop(records m ρ K ∗ owing c (O + owedP c) ∗ dutyTok ER (barC (pr c)) 0 (y c) ∗ (∃ f, own pM c f))
      ⊢ iprop((owing c O -∗ run c Kt Q) -∗ run c (semSignalWord d barS 1#32 >>= fun _ => Kt) Q) := by
  subst hd
  unfold owing semSignalWord run
  iintro ⟨#Hr, ⟨%W, HO⟩, Ht, Hp⟩ Hk
  iapply (Rounds.wp_signal 𝒱₀ ER (Rd m ρ) (c : Thread nD τ) none (dst := (pr c : Thread nD τ)) (κ := K (pr c, 0))
      (d := y c) (by rw [duties_bar]; exact Finset.mem_univ _) ((amount_bar m ρ (pr c) (y c)).trans (by decide)) () O rfl) $$ [HO Ht Hp]
  · isplitr; · iapply (rec_inv m ρ K (pr c, 0)); iexact Hr
    isplitl [HO]; · iexact HO
    isplitl [Ht]; · iexact Ht
    isplitl [Hp]
    · rw [payload_bar]; unfold barPay; rw [if_pos (y_pr c).symm, pr_pr]; iexact Hp
    · iapply (rec_reached m ρ K (pr c, 0)); iexact Hr
  iintro HO
  iapply Hk; iexists W; iexact HO

/-- The signal to the peer of row `k`, skipped towards the own row. -/
theorem step_signal (c : Dev nD) (k : Fin 4) {P : Prop} [Decidable P] (hP : P ↔ k ≠ y c) (d : P → Dev nD) (hd : ∀ h, d h = pe c k)
    (O : CellTallies nD τ sig Unit) {α : Type} {Kt : Prog (TpuEff nD τ sig (Elt F) Λ₀ .tc) α} {Q : α → sProp 𝕄} :
    iprop(records m ρ K ∗ owing c (O + owedB c k) ∗ off c k (dutyTok ER (barC (pe c k)) 0 (y c)) ∗ off c k (slotAny (F := F) c k))
      ⊢ iprop((owing c O -∗ run c Kt Q) -∗ run c (if h : P then semSignalWord (d h) barS 1#32 >>= fun _ => Kt else Kt) Q) := by
  unfold owing off owedB run
  by_cases hk : k = y c
  · rw [dif_neg (fun h => hP.mp h hk), if_pos hk, if_pos hk, if_pos hk, add_zero]
    iintro ⟨#Hr, ⟨%W, HO⟩, Ht, Hp⟩ Hk
    iapply Hk; iexists W; iexact HO
  rw [dif_pos (hP.mpr hk), if_neg hk, if_neg hk, if_neg hk, hd]
  unfold semSignalWord
  simp only [Prog.bind_op, Prog.bind_ret, Prog.pure_eq_ret]
  iintro ⟨#Hr, ⟨%W, HO⟩, Ht, Hp⟩ Hk
  iapply (Rounds.wp_signal 𝒱₀ ER (Rd m ρ) (c : Thread nD τ) none (dst := (pe c k : Thread nD τ)) (κ := K (pe c k, 0))
      (d := y c) (by rw [duties_bar]; exact Finset.mem_univ _) ((amount_bar m ρ (pe c k) (y c)).trans (by decide)) () O rfl) $$ [HO Ht Hp]
  · isplitr; · iapply (rec_inv m ρ K (pe c k, 0)); iexact Hr
    isplitl [HO]; · iexact HO
    isplitl [Ht]; · iexact Ht
    isplitl [Hp]
    · rw [payload_bar]; unfold barPay; rw [y_pe, if_neg (fun h => hk h.symm), pe_back]; iexact Hp
    · iapply (rec_reached m ρ K (pe c k, 0)); iexact Hr
  iintro HO
  iapply Hk; iexists W; iexact HO

/-- The wait for the four signals: the partner's landing buffer and, on each peer, the slot of the own row. -/
theorem step_barrier (c : Dev nD) {α : Type} {Kt : Prog (TpuEff nD τ sig (Elt F) Λ₀ .tc) α} {Q : α → sProp 𝕄} :
    iprop(records m ρ K ∗ owing c (O₁ c) ∗ levAts L lv ∗ cred (tallyAt (barC c) () 4) ∗ atPos ER (barC c) 0 ∅ 0)
      ⊢ iprop((owing c (O₁ c) ∗ fin m ρ c 0 ∗ bigSep Finset.univ (barPay (F := F) c) -∗ run c Kt Q) -∗ run c (semWaitWord barS 4#32 >>= fun _ => Kt) Q) := by
  unfold owing semWaitWord fin run
  iintro ⟨#Hr, ⟨%W, HO⟩, #Hlev, Hc, Hat⟩ Hk
  iapply (Rounds.wp_wait_rest_token 𝒱₀ ER (Rd m ρ) (c : Thread nD τ) none (κ := K (c, 0))
      (wpE_semWait_eq 𝒱₀ (c : Thread nD τ) none Set.univ) (Set.mem_univ _) () (O := O₁ c) (W := W) (R := 0) (m := 0) (T := ∅)
      (by rw [expect_bar]; decide)) $$ [Hc HO Hat]
  · isplitr; · iapply (rec_inv m ρ K (c, 0)); iexact Hr
    isplitl [Hc]; · iexact Hc
    isplitl [HO]; · iexact HO
    isplitr; · iapply (may_wait c (.reg barS) 1 (above_O₁ c) (le_refl 1)); iexact Hlev
    iexact Hat
  iintro ⟨HO, Hat, -, Hpay⟩
  iapply Hk
  isplitl [HO]; · iexists _; iexact HO
  isplitl [Hat]
  · iexists 1; isplitr; · ipureintro; exact duties_later m ρ _
    iexact Hat
  iapply (Entails.of_eq (rest_bar m ρ c)); iexact Hpay

/-! ## Transfers -/

/-- The wait on a transfer's semaphore of the device itself, which yields what the transfer hands over. -/
theorem step_wait (c : Dev nD) (i : Fin 11) (q : DmaSem sig) (hi : csem i = .dma q) (hq : Busy c q) {P : sProp 𝕄}
    (hpay : (Rd (F := F) m ρ).payload ((c : Thread nD τ), .dma q) 0 0 = P)
    (n : ℕ) {O : CellTallies nD τ sig Unit} (hO : Above n O) (hl : lv ((c : Thread nD τ), .dma q) () ≤ n)
    {sp sp' : Space} {s s' : Shape} {e e' : EltTy} {src : Memref sig .tc sp s e} {dst : Memref sig .tc sp' s' e'}
    {hsrc : src.view.WordExact} {hdst : dst.view.WordExact} (hN : dst.view.dmaCredit = N) {α : Type}
    {k : PUnit → Prog (TpuEff nD τ sig (Elt F) Λ₀ .tc) α} {Q : α → sProp 𝕄} :
    iprop(records m ρ K ∗ owing c O ∗ levAts L lv ∗ cred (tallyAt ((c : Thread nD τ), .dma q) () N) ∗ atPos ER ((c : Thread nD τ), .dma q) 0 ∅ 0)
      ⊢ iprop((owing c O ∗ fin m ρ c i ∗ P -∗ run c (k ⟨⟩) Q) -∗ run c (.op (.waitDma2 q src dst hsrc hdst) k) Q) := by
  unfold owing fin run
  rw [show kcell (c, i) = ((c : Thread nD τ), .dma q) from congrArg (Prod.mk (c : Thread nD τ)) hi]
  iintro ⟨#Hr, ⟨%W, HO⟩, #Hlev, Hc, Hat⟩ Hk
  iapply (Rounds.wp_wait_rest_token 𝒱₀ ER (Rd m ρ) (c : Thread nD τ) none (κ := K (c, i))
      (wpE_waitDma2_eq 𝒱₀ (c : Thread nD τ) none Set.univ) (Set.mem_univ _) () (O := O) (W := W) (R := 0) (m := 0) (T := ∅)
      (by rw [Nat.zero_add, expect_busy m ρ c hq]; exact hN)) $$ [Hc HO Hat]
  · isplitr
    · ihave H := (rec_inv m ρ K (c, i)) $$ Hr
      iapply (Entails.of_eq (congrArg (fun sm => cellInv ER (Rd m ρ) (K (c, i)) ((c : Thread nD τ), sm)) hi)); iexact H
    isplitl [Hc]; · rw [hN]; iexact Hc
    isplitl [HO]; · iexact HO
    isplitr; · iapply (may_wait c (.dma q) n hO hl); iexact Hlev
    iexact Hat
  iintro ⟨HO, Hat, -, Hpay⟩
  iapply Hk
  isplitl [HO]; · iexists _; iexact HO
  isplitl [Hat]
  · iexists 1; isplitr; · ipureintro; exact duties_later m ρ _
    iexact Hat
  iapply (Entails.of_eq (rest_busy m ρ c hq hpay)); iexact Hpay

omit [FloatOps F] in
/-- The landing buffer, written whole, holds what the source held. -/
theorem landed_partner (c : Dev nD) (f : Buf (Elt F) ((pM : Memref sig .tc .vmem S128x16 .f32).view.loc (c : Thread nD τ)))
    (g : (cc0_scratch0 : Ref sig .tc).ty.Contents (Elt F)) :
    (pM : Memref sig .tc .vmem S128x16 .f32).view.write (Elt F) f ((cM : Memref sig .tc .vmem S128x16 .f32).view.read (Elt F) g) Finset.univ = g := by
  show (View.whole cc0_scratch1).write (Elt F) f ((View.whole cc0_scratch0).read (Elt F) g) Finset.univ = g
  rw [View.read_whole]
  exact View.write_whole_univ _ _ _

/-- The transfer of the candidates to the partner. -/
theorem step_send_partner (c d : Dev nD) (hd : d = pr c) (O : CellTallies nD τ sig Unit) (v : Vec F S128x16 .f32) (hv : v = candAt m ρ c)
    {hsc : (pM : Memref sig (Dev.tc d : Thread nD τ).2.kind .vmem S128x16 .f32).view.ref.isScScratch = false}
    {hsrc : (cM : Memref sig .tc .vmem S128x16 .f32).view.WordExact} {hdst : (pM : Memref sig .tc .vmem S128x16 .f32).view.WordExact}
    {hsem : DmaTarget.Typed .vmem (.dma xrQ) (.remote (Dev.tc d : Thread nD τ) (pM : Memref sig .tc .vmem S128x16 .f32) (.dma xsQ) hsc)}
    {α : Type} {k : PUnit → Prog (TpuEff nD τ sig (Elt F) Λ₀ .tc) α} {Q : α → sProp 𝕄} :
    iprop(records m ρ K ∗ owing c (O + owedX c) ∗ own cM c v ∗ (∃ f, own (F := F) pM (pr c) f)
        ∗ dutyTok ER (xsC c) 0 0 ∗ dutyTok ER (xrC (pr c)) 0 0)
      ⊢ iprop((owing c O ∗ cred (tallyAt (xsC c) () N) -∗ run c (k ⟨⟩) Q)
          -∗ run c (.op (.enqueueDma cM (.remote (Dev.tc d : Thread nD τ) pM (.dma xsQ) hsc) (.dma xrQ) hsrc hdst hsem) k) Q) := by
  subst hd hv
  unfold owing run owedX
  iintro ⟨#Hr, ⟨%W, HO⟩, Hs, ⟨%f, Hd⟩, Ht, Ht'⟩ Hk
  unfold own
  iapply (Rounds.wp_send_pointsTo 𝒱₀ ER (Rd m ρ) (c : Thread nD τ) none (κ₁ := K (c, xsI)) (κ₂ := K (pr c, xrI))
    (r₁ := 0) (r₂ := 0) (d₁ := 0) (d₂ := 0) (fd := f)
    (by rw [duties_busy m ρ c (busy_xs c)]; exact Finset.mem_singleton_self _)
    (by rw [duties_busy m ρ (pr c) (busy_xr (pr c))]; exact Finset.mem_singleton_self _)
    () () N rfl (amount_dma m ρ c xsQ 0) (amount_dma m ρ (pr c) xrQ 0) O rfl (W := W)
    (by rw [payload_xs]; exact BI.Entails.refl _)
    (by rw [payload_xr, pr_pr]; unfold own; rw [landed_partner])) $$ [HO Hs Hd Ht Ht']
  · isplitr; · iapply (rec_inv m ρ K (c, xsI)); iexact Hr
    isplitr; · iapply (rec_inv m ρ K (pr c, xrI)); iexact Hr
    isplitl [Hs]; · iexact Hs
    isplitl [Hd]; · iexact Hd
    isplitl [HO]; · iexact HO
    isplitl [Ht]; · iexact Ht
    isplitr; · iapply (rec_reached m ρ K (c, xsI)); iexact Hr
    isplitl [Ht']; · iexact Ht'
    iapply (rec_reached m ρ K (pr c, xrI)); iexact Hr
  iintro ⟨Hc, HO⟩
  iapply Hk
  isplitl [HO]; · iexists W; iexact HO
  iexact Hc

/-- The transfer of the merged candidates to the peer of row `k`. -/
theorem step_send_at (c : Dev nD) (k : Fin 4) (hk : k ≠ y c) (d : Dev nD) (hd : d = pe c k) (O : CellTallies nD τ sig Unit)
    (o : Fin 3 → ℕ) (ho : o = ![(y c).val, 0, 0]) (io : ∀ a, o a + S1x128x16.size a ≤ S4x128x16.size a)
    (qs qr : DmaSem sig) (hqs : qs = ysQ k) (hqr : qr = yrQ (y c))
    {hsc : (slotAt o io : Memref sig (Dev.tc d : Thread nD τ).2.kind .vmem S128x16 .f32).view.ref.isScScratch = false}
    {hsrc : (rM : Memref sig .tc .vmem S128x16 .f32).view.WordExact} {hdst : (slotAt o io : Memref sig .tc .vmem S128x16 .f32).view.WordExact}
    {hsem : DmaTarget.Typed .vmem (.dma qr) (.remote (Dev.tc d : Thread nD τ) (slotAt o io : Memref sig .tc .vmem S128x16 .f32) (.dma qs) hsc)}
    {α : Type} {kt : PUnit → Prog (TpuEff nD τ sig (Elt F) Λ₀ .tc) α} {Q : α → sProp 𝕄} :
    iprop(records m ρ K ∗ owing c (O + tallyAt (yrC (pe c k) (y c)) () N) ∗ own rM c (resAt m ρ c) ∗ slotAny (F := F) (pe c k) (y c)
        ∗ dutyTok ER (ysC c k) 0 0 ∗ dutyTok ER (yrC (pe c k) (y c)) 0 0)
      ⊢ iprop((owing c O ∗ cred (tallyAt (ysC c k) () N) -∗ run c (kt ⟨⟩) Q)
          -∗ run c (.op (.enqueueDma rM (.remote (Dev.tc d : Thread nD τ) (slotAt o io) (.dma qs) hsc) (.dma qr) hsrc hdst hsem) kt) Q) := by
  subst hd ho hqs hqr
  unfold owing run slotAny
  iintro ⟨#Hr, ⟨%W, HO⟩, Hs, ⟨%f, Hd⟩, Ht, Ht'⟩ Hk
  unfold own
  have hback : y c ≠ y (pe c k) := by rw [y_pe]; exact fun h => hk h.symm
  iapply (Rounds.wp_send_pointsTo 𝒱₀ ER (Rd m ρ) (c : Thread nD τ) none (κ₁ := K (c, ysI k)) (κ₂ := K (pe c k, yrI (y c)))
    (r₁ := 0) (r₂ := 0) (d₁ := 0) (d₂ := 0) (fd := f)
    (by rw [duties_busy m ρ c (busy_ys hk)]; exact Finset.mem_singleton_self _)
    (by rw [duties_busy m ρ (pe c k) (busy_yr hback)]; exact Finset.mem_singleton_self _)
    () () N rfl (amount_dma m ρ c (ysQ k) 0) (amount_dma m ρ (pe c k) (yrQ (y c)) 0) O rfl (W := W)
    (by rw [payload_ys]; exact BI.Entails.refl _)
    (by
      rw [payload_yr]; unfold slotPay own
      iintro H; iexists ((slotM (y c)).view.write (Elt F) f (rM.view.read (Elt F) (resAt m ρ c)) Finset.univ)
      isplitr
      · ipureintro; rw [View.read_write_univ, pe_back]; exact View.read_whole _ _
      iexact H)) $$ [HO Hs Hd Ht Ht']
  · isplitr; · iapply (rec_inv m ρ K (c, ysI k)); iexact Hr
    isplitr; · iapply (rec_inv m ρ K (pe c k, yrI (y c))); iexact Hr
    isplitl [Hs]; · iexact Hs
    isplitl [Hd]; · iexact Hd
    isplitl [HO]; · iexact HO
    isplitl [Ht]; · iexact Ht
    isplitr; · iapply (rec_reached m ρ K (c, ysI k)); iexact Hr
    isplitl [Ht']; · iexact Ht'
    iapply (rec_reached m ρ K (pe c k, yrI (y c))); iexact Hr
  iintro ⟨Hc, HO⟩
  iapply Hk
  isplitl [HO]; · iexists W; iexact HO
  iexact Hc

/-- A departure to a peer has level 0: -/
theorem lv_ys : ∀ k, (if ysQ k = xrQ then 2 else if 8 ≤ (ysQ k).val then 3 else 0) = 0 := by decide

/-- at its cell, -/
theorem lv_ysC (c : Dev nD) (k : Fin 4) : lv (ysC c k) () ≤ 0 := le_of_eq (lv_ys k)
/-- and an arrival from one level 3 at most at its. -/
theorem lv_yrC (c : Dev nD) (k : Fin 4) : lv (yrC c k) () ≤ 3 := le_of_eq (lv_yr k)
/-- The semaphores of these cells: of a departure -/
theorem csem_ys (k : Fin 4) : csem (ysI k) = .dma (ysQ k) := rfl
/-- and of an arrival. -/
theorem csem_yr (k : Fin 4) : csem (yrI k) = .dma (yrQ k) := rfl
/-- A copy into a slot pays the credit of one copy. -/
theorem slot_credit (o : Fin 3 → ℕ) (io : ∀ a, o a + S1x128x16.size a ≤ S4x128x16.size a) :
    (slotAt o io : Memref sig .tc .vmem S128x16 .f32).view.dmaCredit = N := rfl

/-- The transfer to the peer of row `k` and the wait for its departure, skipped towards the own row. -/
theorem step_send (c : Dev nD) (k : Fin 4) {P : Prop} [Decidable P] (hP : P ↔ k ≠ y c) (d : P → Dev nD) (hd : ∀ h, d h = pe c k)
    (O : CellTallies nD τ sig Unit) (hO : Above 0 O)
    (o : Fin 3 → ℕ) (ho : o = ![(y c).val, 0, 0]) (io : P → ∀ a, o a + S1x128x16.size a ≤ S4x128x16.size a)
    (o' : Fin 1 → ℕ) (ho' : o' = ![(y c).val]) (io' : P → ∀ a, o' a + S1.size a ≤ S4.size a)
    (qs : DmaSems sig S_) (hqs : qs.sem = ysQ k)
    (hsrc : (rM : Memref sig .tc .vmem S128x16 .f32).view.WordExact) (hdst : ∀ h, (slotAt o (io h) : Memref sig .tc .vmem S128x16 .f32).view.WordExact)
    (hsem : ∀ h, DmaTarget.Typed .vmem (.dma ((cc0_scratch7.slice (Rect.unit (s := S4) o' S1.size (io' h))).squeeze S_ squeezes_S1_S_).sem)
      (.remote (Dev.tc (d h) : Thread nD τ) (slotAt o (io h) : Memref sig .tc .vmem S128x16 .f32) (.dma qs.sem))) {α : Type} {Kt : Prog (TpuEff nD τ sig (Elt F) Λ₀ .tc) α} {Q : α → sProp 𝕄} :
    iprop(records m ρ K ∗ levAts L lv ∗ owing c (O + owedY c k) ∗ own rM c (resAt m ρ c) ∗ off c k (slotAny (F := F) (pe c k) (y c))
        ∗ off c k (dutyTok ER (ysC c k) 0 0) ∗ off c k (dutyTok ER (yrC (pe c k) (y c)) 0 0) ∗ atPos ER (ysC c k) 0 ∅ 0)
      ⊢ iprop((owing c O ∗ own rM c (resAt m ρ c) ∗ fin m ρ c (ysI k) -∗ run c Kt Q)
          -∗ run c (if h : P then
              .op (.enqueueDma rM (.remote (Dev.tc (d h)) (slotAt o (io h)) (.dma qs.sem))
                (.dma ((cc0_scratch7.slice (Rect.unit (s := S4) o' S1.size (io' h))).squeeze S_ squeezes_S1_S_).sem) hsrc (hdst h) (hsem h))
              fun _ => .op (.waitDma2 qs.sem (slotAt o (io h)) rM (hdst h) hsrc) fun _ => Kt
            else Kt) Q) := by
  unfold off owedY
  by_cases hk : k = y c
  · rw [dif_neg (fun h => hP.mp h hk), if_pos hk, if_pos hk, if_pos hk, if_pos hk, add_zero]
    unfold fin
    iintro ⟨#Hr, #Hlev, HO, Hs, -, -, -, Hat⟩ Hk
    iapply Hk
    isplitl [HO]; · iexact HO
    isplitl [Hs]; · iexact Hs
    iexists 0; isplitr; · ipureintro; exact fun r _ => duties_idle m ρ c (idle_ys hk) r
    iexact Hat
  rw [dif_pos (hP.mpr hk), if_neg hk, if_neg hk, if_neg hk, if_neg hk]
  iintro ⟨#Hr, #Hlev, HO, Hs, Hd, Ht, Ht', Hat⟩ Hk
  iapply (step_send_at m ρ K c k hk (d (hP.mpr hk)) (hd (hP.mpr hk)) O o ho (io (hP.mpr hk)) qs.sem _ hqs (yr_sem (y c) o' (io' (hP.mpr hk)) ho')) $$ [HO Hs Hd Ht Ht']
  · isplitr; · iexact Hr
    isplitl [HO]; · iexact HO
    isplitl [Hs]; · iexact Hs
    isplitl [Hd]; · iexact Hd
    isplitl [Ht]; · iexact Ht
    iexact Ht'
  iintro ⟨HO, Hc⟩
  rw [hqs]
  iapply (step_wait m ρ K c (ysI k) (ysQ k) (csem_ys k) (busy_ys hk) (payload_ys m ρ c k 0) 0 hO (lv_ysC c k)
    (src := slotAt o (io (hP.mpr hk))) (dst := rM) rfl) $$ [HO Hc Hat]
  · isplitr; · iexact Hr
    isplitl [HO]; · iexact HO
    isplitr; · iexact Hlev
    isplitl [Hc]; · iexact Hc
    iexact Hat
  iintro ⟨HO, Hf, Hs⟩
  iapply Hk
  isplitl [HO]; · iexact HO
  isplitl [Hs]; · iexact Hs
  iexact Hf

/-- The wait for the arrival from the peer of row `k`, skipped at the own row. -/
theorem step_recv (c : Dev nD) (k : Fin 4) {P : Prop} [Decidable P] (hP : P ↔ k ≠ y c)
    (o : Fin 3 → ℕ) (io : ∀ a, o a + S1x128x16.size a ≤ S4x128x16.size a)
    (qr : DmaSems sig S_) (hqr : qr.sem = yrQ k)
    (hsrc : (rM : Memref sig .tc .vmem S128x16 .f32).view.WordExact) (hdst : (slotAt o io : Memref sig .tc .vmem S128x16 .f32).view.WordExact)
    {α : Type} {Kt : Prog (TpuEff nD τ sig (Elt F) Λ₀ .tc) α} {Q : α → sProp 𝕄} :
    iprop(records m ρ K ∗ levAts L lv ∗ owing c 0 ∗ off c k (cred (tallyAt (yrC c k) () N)) ∗ (if k = y c then slotAny (F := F) c k else iprop(emp))
        ∗ atPos ER (yrC c k) 0 ∅ 0)
      ⊢ iprop((owing c 0 ∗ fin m ρ c (yrI k) ∗ slotGot m ρ c k -∗ run c Kt Q)
          -∗ run c (if h : P then .op (.waitDma2 qr.sem rM (slotAt o io) hsrc hdst) fun _ => Kt else Kt) Q) := by
  unfold off slotGot
  by_cases hk : k = y c
  · rw [dif_neg (fun h => hP.mp h hk), if_pos hk, if_pos hk]
    unfold fin slotAny
    iintro ⟨#Hr, #Hlev, HO, -, ⟨%f, Hs⟩, Hat⟩ Hk
    iapply Hk
    isplitl [HO]; · iexact HO
    isplitl [Hat]
    · iexists 0; isplitr; · ipureintro; exact fun r _ => duties_idle m ρ c (idle_yr hk) r
      iexact Hat
    iexists f; isplitr; · ipureintro; exact fun h => absurd hk h
    iexact Hs
  rw [dif_pos (hP.mpr hk), if_neg hk, if_neg hk, hqr]
  iintro ⟨#Hr, #Hlev, HO, Hc, -, Hat⟩ Hk
  iapply (step_wait m ρ K c (yrI k) (yrQ k) (csem_yr k) (busy_yr hk) (payload_yr m ρ c k 0) 3 (above_zero 3) (lv_yrC c k)
    (src := rM) (dst := slotAt o io) (slot_credit o io)) $$ [HO Hc Hat]
  · isplitr; · iexact Hr
    isplitl [HO]; · iexact HO
    isplitr; · iexact Hlev
    isplitl [Hc]; · iexact Hc
    iexact Hat
  unfold slotPay
  iintro ⟨HO, Hf, ⟨%f, %hf, Hs⟩⟩
  iapply Hk
  isplitl [HO]; · iexact HO
  isplitl [Hf]; · iexact Hf
  iexists f; isplitr; · ipureintro; exact fun _ => hf
  iexact Hs

end Cert.KernelIdeal.Run
-- ==== Proof.ComputeKernelIdeal.lean ====
/-
The parts of the kernel's body that only compute: each is given values in closed form and leaves values in closed
form, so that the sixteen candidates of a row come out as the recursions that describe them.
-/
module

public import proofs.«01_k».proof.Proof.StepsKernelIdeal
public import Idealize.ShloMosaic.Lib.Pipeline.Value

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable {a0 : Memref sig .tc .vmem S512x4096 .bf16} {h0 : a0.IsWhole} {a1 : Memref sig .tc .vmem S512x16 .f32} {h1 : a1.IsWhole}
  {a2 : Memref sig .tc .vmem S128x16 .f32} {h2 : a2.IsWhole} {a3 : Memref sig .tc .vmem S128x16 .f32} {h3 : a3.IsWhole}
  {a4 : Memref sig .tc .vmem S128x16 .f32} {h4 : a4.IsWhole} {a5 : Memref sig .tc .vmem S4x128x16 .f32} {h5 : a5.IsWhole}
  {a6 a7 : DmaSems sig S_} {a8 a9 : DmaSems sig S4}

/-- A program that only returns. -/
theorem run_ret {α : Type} (c : Dev nD) {p : Prog (TpuEff nD τ sig (Elt F) Λ₀ .tc) α} {a : α} {Q : α → sProp 𝕄} (h : p = .ret a) :
    Q a ⊢ run c p Q := by
  subst h; unfold run; exact BI.fupd_intro

/-- What is left of the lanes' maxima after `j` rounds, and the largest value of each row of it. -/
abbrev candRest (v : Vec F S128x4096 .bf16) (j : ℕ) : FVec F S128x384 .f32 := rounds reduces_S128x384_S128 broadcasts_S128x1_S128x384 (wide v) j
/-- The greatest value of each row of what is left of the lanes' candidates after `j` rounds. -/
abbrev candMax (v : Vec F S128x4096 .bf16) (j : ℕ) : FVec F S128x1 .f32 := rowMax reduces_S128x384_S128 (candRest v j)
/-- What is left of two arrays of candidates after `j` rounds, and the largest value of each row of it. -/
abbrev mergeRest (a b : Vec F S128x16 .f32) (j : ℕ) : FVec F S128x32 .f32 :=
  rounds reduces_S128x32_S128 broadcasts_S128x1_S128x32
    (concatenate S128x32 1 [⟨S128x16, a⟩, ⟨S128x16, b⟩] concatenates_S128x16_S128x16_S128x32_d1) j
/-- The greatest value of each row of what is left of two arrays of candidates after `j` rounds. -/
abbrev mergeMax (a b : Vec F S128x16 .f32) (j : ℕ) : FVec F S128x1 .f32 := rowMax reduces_S128x32_S128 (mergeRest a b j)

/-- The band read from the argument's block, cut into its chunks. -/
theorem part2 (c : Dev nD) (w : BitVec 32) {Q : _ → sProp 𝕄} :
    own xM c (xstg m ρ c)
      ⊢ iprop((own xM c (xstg m ρ c) -∗ Q ⟨lanes (band m ρ c) 0 0, lanes (band m ρ c) 0 1, lanes (band m ρ c) 0 2, lanes (band m ρ c) 0 3, lanes (band m ρ c) 0 4,
          lanes (band m ρ c) 0 5, lanes (band m ρ c) 0 6, lanes (band m ρ c) 0 7, lanes (band m ρ c) 0 8, lanes (band m ρ c) 0 9,
          lanes (band m ρ c) 0 10, lanes (band m ρ c) 0 11, lanes (band m ρ c) 0 12, lanes (band m ρ c) 0 13, lanes (band m ρ c) 0 14,
          lanes (band m ρ c) 0 15, lanes (band m ρ c) 0 16, lanes (band m ρ c) 0 17, lanes (band m ρ c) 0 18, lanes (band m ρ c) 0 19,
          lanes (band m ρ c) 0 20, lanes (band m ρ c) 0 21, lanes (band m ρ c) 0 22, lanes (band m ρ c) 0 23, lanes (band m ρ c) 0 24,
          lanes (band m ρ c) 0 25, lanes (band m ρ c) 0 26, lanes (band m ρ c) 0 27, lanes (band m ρ c) 0 28, lanes (band m ρ c) 0 29,
          lanes (band m ρ c) 0 30, lanes (band m ρ c) 0 31, lmax (lanes (band m ρ c) 0) 23⟩)
          -∗ run c (k0_part2_skel (F := F) xM (Memref.isWhole_whole _) a1 h1 a2 h2 a3 h3 a4 h4 a5 h5 a6 a7 a8 a9 c w) Q) := by
  unfold k0_part2_skel run own
  simp only [Prog.lift, Prog.bind_op, Prog.bind_ret, Prog.pure_eq_ret]
  exact (wp_load 𝒱₀ (c : Thread nD τ) none Set.univ (m := xM) (View.setOn_subset_set _ _)).trans
    (wand_mono (wand_mono_right (run_ret c rfl)) (Entails.refl _))

/-- The first round's largest values, and the first chunks without them. -/
theorem part3 (c : Dev nD) (v : Vec F S128x4096 .bf16) {Q : _ → sProp 𝕄} :
    Q ⟨lmax (lanes v 0) 31, lanes v 1 0, lanes v 1 1, lanes v 1 2, lanes v 1 3, lanes v 1 4, lanes v 1 5, lanes v 1 6, lanes v 1 7,
          lanes v 1 8, lanes v 1 9, lanes v 1 10, lanes v 1 11, lanes v 1 12⟩
      ⊢ run c (k0_part3_skel (F := F) a0 h0 a1 h1 a2 h2 a3 h3 a4 h4 a5 h5 a6 a7 a8 a9
          (lanes v 0 0) (lanes v 0 1) (lanes v 0 2) (lanes v 0 3) (lanes v 0 4) (lanes v 0 5) (lanes v 0 6) (lanes v 0 7) (lanes v 0 8)
          (lanes v 0 9) (lanes v 0 10) (lanes v 0 11) (lanes v 0 12) (lanes v 0 24) (lanes v 0 25) (lanes v 0 26) (lanes v 0 27)
          (lanes v 0 28) (lanes v 0 29) (lanes v 0 30) (lanes v 0 31) (lmax (lanes v 0) 23)) Q :=
  run_ret c rfl

/-- More chunks of the second round. -/
theorem part4 (c : Dev nD) (v : Vec F S128x4096 .bf16) {Q : _ → sProp 𝕄} :
    Q ⟨lanes v 1 13, lanes v 1 14, lanes v 1 15, lanes v 1 16, lanes v 1 17, lanes v 1 18, lanes v 1 19, lanes v 1 20, lanes v 1 21,
          lanes v 1 22, lanes v 1 23, lanes v 1 24, lanes v 1 25, lanes v 1 26, lanes v 1 27⟩
      ⊢ run c (k0_part4_skel (F := F) a0 h0 a1 h1 a2 h2 a3 h3 a4 h4 a5 h5 a6 a7 a8 a9
          (lanes v 0 13) (lanes v 0 14) (lanes v 0 15) (lanes v 0 16) (lanes v 0 17) (lanes v 0 18) (lanes v 0 19) (lanes v 0 20)
          (lanes v 0 21) (lanes v 0 22) (lanes v 0 23) (lanes v 0 24) (lanes v 0 25) (lanes v 0 26) (lanes v 0 27) (lmax (lanes v 0) 31)) Q :=
  run_ret c rfl

/-- The rest of them, their largest values, and the first chunks of the third round. -/
theorem part5 (c : Dev nD) (v : Vec F S128x4096 .bf16) {Q : _ → sProp 𝕄} :
    Q ⟨lanes v 1 28, lanes v 1 29, lanes v 1 30, lanes v 1 31, lmax (lanes v 1) 31, lanes v 2 0, lanes v 2 1, lanes v 2 2,
          cmpf .oge (lanes v 1 3) (lmax (lanes v 1) 31)⟩
      ⊢ run c (k0_part5_skel (F := F) a0 h0 a1 h1 a2 h2 a3 h3 a4 h4 a5 h5 a6 a7 a8 a9
          (lanes v 0 28) (lanes v 0 29) (lanes v 0 30) (lanes v 0 31) (lmax (lanes v 0) 31) (lanes v 1 0) (lanes v 1 1) (lanes v 1 2)
          (lanes v 1 3) (lanes v 1 4) (lanes v 1 5) (lanes v 1 6) (lanes v 1 7) (lanes v 1 8) (lanes v 1 9) (lanes v 1 10) (lanes v 1 11)
          (lanes v 1 12) (lanes v 1 13) (lanes v 1 14) (lanes v 1 15) (lanes v 1 16) (lanes v 1 17) (lanes v 1 18) (lanes v 1 19)
          (lanes v 1 20) (lanes v 1 21) (lanes v 1 22) (lanes v 1 23) (lanes v 1 24) (lanes v 1 25) (lanes v 1 26) (lanes v 1 27)) Q :=
  run_ret c rfl

/-- More chunks of the third round. -/
theorem part6 (c : Dev nD) (v : Vec F S128x4096 .bf16) {Q : _ → sProp 𝕄} :
    Q ⟨lanes v 2 3, lanes v 2 4, lanes v 2 5, lanes v 2 6, lanes v 2 7, lanes v 2 8, lanes v 2 9, lanes v 2 10, lanes v 2 11,
          lanes v 2 12, lanes v 2 13, lanes v 2 14, lanes v 2 15, lanes v 2 16, lanes v 2 17, cmpf .oge (lanes v 1 18) (lmax (lanes v 1) 31)⟩
      ⊢ run c (k0_part6_skel (F := F) a0 h0 a1 h1 a2 h2 a3 h3 a4 h4 a5 h5 a6 a7 a8 a9
          (lanes v 1 3) (lanes v 1 4) (lanes v 1 5) (lanes v 1 6) (lanes v 1 7) (lanes v 1 8) (lanes v 1 9) (lanes v 1 10) (lanes v 1 11)
          (lanes v 1 12) (lanes v 1 13) (lanes v 1 14) (lanes v 1 15) (lanes v 1 16) (lanes v 1 17) (lanes v 1 18) (lmax (lanes v 1) 31)
          (cmpf .oge (lanes v 1 3) (lmax (lanes v 1) 31))) Q :=
  run_ret c rfl

/-- The rest of them. -/
theorem part7 (c : Dev nD) (v : Vec F S128x4096 .bf16) {Q : _ → sProp 𝕄} :
    Q ⟨lanes v 2 18, lanes v 2 19, lanes v 2 20, lanes v 2 21, lanes v 2 22, lanes v 2 23, lanes v 2 24, lanes v 2 25, lanes v 2 26,
          lanes v 2 27, lanes v 2 28, lanes v 2 29, lanes v 2 30, lanes v 2 31, lmax (lanes v 2) 5⟩
      ⊢ run c (k0_part7_skel (F := F) a0 h0 a1 h1 a2 h2 a3 h3 a4 h4 a5 h5 a6 a7 a8 a9
          (lanes v 1 18) (lanes v 1 19) (lanes v 1 20) (lanes v 1 21) (lanes v 1 22) (lanes v 1 23) (lanes v 1 24) (lanes v 1 25)
          (lanes v 1 26) (lanes v 1 27) (lanes v 1 28) (lanes v 1 29) (lanes v 1 30) (lanes v 1 31) (lmax (lanes v 1) 31) (lanes v 2 0)
          (lanes v 2 1) (lanes v 2 2) (lanes v 2 3) (lanes v 2 4) (lanes v 2 5) (cmpf .oge (lanes v 1 18) (lmax (lanes v 1) 31))) Q :=
  run_ret c rfl

/-- The lanes side by side, and the first of the sixteen largest values. -/
theorem part8 (c : Dev nD) (v : Vec F S128x4096 .bf16) {Q : _ → sProp 𝕄} :
    Q ⟨candMax v 0, candMax v 1, candMax v 2, candMax v 3, candRest v 4⟩
      ⊢ run c (k0_part8_skel (F := F) a0 h0 a1 h1 a2 h2 a3 h3 a4 h4 a5 h5 a6 a7 a8 a9
          (lmax (lanes v 0) 31) (lmax (lanes v 1) 31) (lanes v 2 6) (lanes v 2 7) (lanes v 2 8) (lanes v 2 9) (lanes v 2 10) (lanes v 2 11)
          (lanes v 2 12) (lanes v 2 13) (lanes v 2 14) (lanes v 2 15) (lanes v 2 16) (lanes v 2 17) (lanes v 2 18) (lanes v 2 19)
          (lanes v 2 20) (lanes v 2 21) (lanes v 2 22) (lanes v 2 23) (lanes v 2 24) (lanes v 2 25) (lanes v 2 26) (lanes v 2 27)
          (lanes v 2 28) (lanes v 2 29) (lanes v 2 30) (lanes v 2 31) (lmax (lanes v 2) 5)) Q :=
  run_ret c rfl

/-- More of them. -/
theorem part9 (c : Dev nD) (v : Vec F S128x4096 .bf16) {Q : _ → sProp 𝕄} :
    Q ⟨candMax v 4, candMax v 5, candMax v 6, candMax v 7, candMax v 8, candMax v 9, candMax v 10, candRest v 11, candMax v 11,
          cmpf .oge (candRest v 11) (broadcastTo S128x384 (candMax v 11) broadcasts_S128x1_S128x384)⟩
      ⊢ run c (k0_part9_skel (F := F) a0 h0 a1 h1 a2 h2 a3 h3 a4 h4 a5 h5 a6 a7 a8 a9
          (candRest v 4)) Q :=
  run_ret c rfl

/-- More of the merged candidates. -/
theorem part12 (c : Dev nD) (a b : Vec F S128x16 .f32) {Q : _ → sProp 𝕄} :
    Q ⟨mergeMax a b 7, mergeMax a b 8, mergeMax a b 9, mergeMax a b 10, mergeMax a b 11, mergeMax a b 12, mergeMax a b 13,
          mergeRest a b 14⟩
      ⊢ run c (k0_part12_skel (F := F) a0 h0 a1 h1 a2 h2 a3 h3 a4 h4 a5 h5 a6 a7 a8 a9
          (mergeRest a b 6) (broadcastTo S128x32 (mergeMax a b 6) broadcasts_S128x1_S128x32)) Q :=
  run_ret c rfl

/-- The candidates as the kernel assembles them. -/
theorem cand_eq (v : Vec F S128x4096 .bf16) :
    k0_pay130 (candMax v 0) (candMax v 1) (candMax v 2) (candMax v 3) (candMax v 4) (candMax v 5) (candMax v 6) (candMax v 7) (candMax v 8)
          (candMax v 9) (candMax v 10) (candRest v 11) (candMax v 11) (cmpf .oge (candRest v 11) (broadcastTo S128x384 (candMax v 11)
          broadcasts_S128x1_S128x384)) = cand v := by
  refine (show _ = shapeCast S128x16 (cand v) shapeCasts_S128x16_S128x16 from rfl).trans ?_
  exact shapeCast_self _ _

/-- The merged candidates as the kernel assembles them. -/
theorem merge_eq (a b : Vec F S128x16 .f32) :
    k0_pay161 (mergeMax a b 0) (mergeMax a b 1) (mergeMax a b 2) (mergeMax a b 3) (mergeMax a b 4) (mergeMax a b 5) (mergeMax a b 6)
          (mergeMax a b 7) (mergeMax a b 8) (mergeMax a b 9) (mergeMax a b 10) (mergeMax a b 11) (mergeMax a b 12) (mergeMax a b 13)
          (mergeRest a b 14) = merge a b := by
  refine (show _ = shapeCast S128x16 (merge a b) shapeCasts_S128x16_S128x16 from rfl).trans ?_
  exact shapeCast_self _ _

end Cert.KernelIdeal.Run
-- ==== Proof.MovesKernelIdeal.lean ====
/-
The loads and stores of the body on the three arrays of candidates, the gathered slots and the result.
-/
module

public import proofs.«01_k».proof.Proof.ComputeKernelIdeal
public import Idealize.ShloMosaic.Lib.WritesUnit

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- A load through a rectangle of a memref the device owns. -/
theorem step_load (c : Dev nD) {s : Shape} {e : EltTy} (M : Memref sig .tc .vmem s e) (r : Rect s)
    (f : Buf (Elt F) (M.view.loc (c : Thread nD τ))) (v : r.toLoadRect.shape.Idx → Elt F e) (hv : M.view.readAt (Elt F) r.toLoadRect f = v)
    {hl : M.view.LoadsAt r.toLoadRect} {α : Type}
    {k : (r.toLoadRect.shape.Idx → Elt F e) → Prog (TpuEff nD τ sig (Elt F) Λ₀ .tc) α} {Q : α → sProp 𝕄} :
    own M c f ⊢ iprop((own M c f -∗ run c (k v) Q) -∗ run c (.op (.load M r.toLoadRect hl) k) Q) := by
  subst hv
  unfold own run
  exact wp_load 𝒱₀ (c : Thread nD τ) none Set.univ (m := M) (View.setOn_subset_set _ _)

/-- A store of a whole array of candidates. -/
theorem step_store (c : Dev nD) {s : Shape} {e : EltTy} (M : Memref sig .tc .vmem s e) (r : Rect s)
    (f g : Buf (Elt F) (M.view.loc (c : Thread nD τ))) (w : r.shape.Idx → Elt F e) (hg : (M.access r).write (Elt F) f w Finset.univ = g)
    {hx : (M.access r).Stores Finset.univ} {hm : (Finset.univ : Finset r.shape.Idx) = Finset.univ ∨ ∀ a, r.stride a = 1} {α : Type}
    {k : PUnit → Prog (TpuEff nD τ sig (Elt F) Λ₀ .tc) α} {Q : α → sProp 𝕄} :
    own M c f ⊢ iprop((own M c g -∗ run c (k ⟨⟩) Q) -∗ run c (.op (.store M r w Finset.univ hx hm) k) Q) := by
  subst hg
  unfold own run
  exact wp_store 𝒱₀ (c : Thread nD τ) none Set.univ (m := M) (r := r) (Mk := Finset.univ) (View.set_slice_subset _ _)

/-- The origin of a whole array of two dimensions. -/
theorem zero2 : (![0, 0] : Fin 2 → ℕ) = fun _ => 0 := by decide

/-- The part of the argument block's slots that holds slot `k`. -/
theorem slot_set (k : Fin 4) (o : Fin 3 → ℕ) (ho : o = ![k.val, 0, 0]) (io : ∀ a, o a + S1x128x16.size a ≤ S4x128x16.size a) :
    (bM : Memref sig .tc .vmem S4x128x16 .f32).view.setOn (Rect.unit (s := S4x128x16) o S1x128x16.size io).toLoadRect.set ⊆ (slotM k : Memref sig .tc .vmem S128x16 .f32).view.set := by
  subst ho
  have h : (slotM k : Memref sig .tc .vmem S128x16 .f32).view.set
      = ((bM : Memref sig .tc .vmem S4x128x16 .f32).view.slice (Rect.unit (s := S4x128x16) ![k.val, 0, 0] S1x128x16.size io)).set := View.set_reshape _ _
  rw [h, View.set_slice]
  exact subset_of_eq rfl

/-- A load of a slot. -/
theorem step_load_slot (c : Dev nD) (k : Fin 4) (o : Fin 3 → ℕ) (ho : o = ![k.val, 0, 0]) (io : ∀ a, o a + S1x128x16.size a ≤ S4x128x16.size a)
    (f : Buf (Elt F) ((slotM k).view.loc (c : Thread nD τ)))
    {hl : (bM : Memref sig .tc .vmem S4x128x16 .f32).view.LoadsAt (Rect.unit (s := S4x128x16) o S1x128x16.size io).toLoadRect} {α : Type}
    {kt : Vec F S1x128x16 .f32 → Prog (TpuEff nD τ sig (Elt F) Λ₀ .tc) α} {Q : α → sProp 𝕄} :
    own (slotM k) c f
      ⊢ iprop((own (slotM k) c f -∗ ∀ w : Vec F S1x128x16 .f32, ⌜shapeCast S128x16 w shapeCasts_S1x128x16_S128x16 = (slotM k).view.read (Elt F) f⌝ -∗ run c (kt w) Q)
          -∗ run c (.op (.load bM (Rect.unit (s := S4x128x16) o S1x128x16.size io).toLoadRect hl) kt) Q) := by
  unfold own run
  iintro H Hk
  iapply (wp_load 𝒱₀ (c : Thread nD τ) none Set.univ (m := bM) (slot_set k o ho io)) $$ H; iintro H
  ihave Hk := Hk $$ H
  iapply Hk
  ipureintro
  subst ho
  exact (Memref.read_squeeze_slice bM _ _ squeezes_S1x128x16_S128x16 shapeCasts_S1x128x16_S128x16 f).symm

/-! ## The result, band by band -/

/-- The result's array with the bands below `n` in place. -/
def rows (c : Dev nD) (n : ℕ) : sProp 𝕄 :=
  iprop(∃ f : Vec F S512x16 .f32, ⌜∀ i, (i 0).val < 128 * n → f i = outAt m ρ c i⌝ ∗ own oM c f)

/-- A band of the result as the kernel chooses it: the own merged candidates or the slot's. -/
theorem out_value (c : Dev nD) (k : Fin 4) (f : Buf (Elt F) ((slotM k).view.loc (c : Thread nD τ)))
    (hf : k ≠ y c → (slotM k).view.read (Elt F) f = resAt m ρ (pe c k)) (w : Vec F S1x128x16 .f32)
    (hw : shapeCast S128x16 w shapeCasts_S1x128x16_S128x16 = (slotM k).view.read (Elt F) f) :
    Scalar.select (Scalar.cmpi .eq (yW c) (BitVec.ofNat 32 k.val)) (resAt m ρ c) (shapeCast S128x16 w shapeCasts_S1x128x16_S128x16)
      = resAt m ρ (pe c k) := by
  rw [eq_iff]
  by_cases hk : k = y c
  · rw [if_pos hk, hk, pe_y]; rfl
  · rw [if_neg hk, hw, hf hk]; rfl

/-- Storing band `k`. -/
theorem step_rows (c : Dev nD) (k : Fin 4) (n : ℕ) (hn : n = k.val) (o : Fin 2 → ℕ) (ho : o = ![128 * k.val, 0]) {io : ∀ a, o a + S128x16.size a ≤ S512x16.size a}
    (w : Vec F S128x16 .f32) (hw : w = resAt m ρ (pe c k))
    {hl : (oM : Memref sig .tc .vmem S512x16 .f32).view.LoadsAt (Rect.unit (s := S512x16) o S128x16.size io).toLoadRect}
    {hx : ((oM : Memref sig .tc .vmem S512x16 .f32).access (Rect.unit (s := S512x16) o S128x16.size io)).Stores Finset.univ}
    {hm : (Finset.univ : Finset (Rect.unit (s := S512x16) o S128x16.size io).shape.Idx) = Finset.univ ∨ ∀ a, (Rect.unit (s := S512x16) o S128x16.size io).stride a = 1} {α : Type}
    {kt : PUnit → Prog (TpuEff nD τ sig (Elt F) Λ₀ .tc) α} {Q : α → sProp 𝕄} :
    rows m ρ c n
      ⊢ iprop((rows m ρ c (n + 1) -∗ run c (kt ⟨⟩) Q)
          -∗ run c (.op (.load oM (Rect.unit (s := S512x16) o S128x16.size io).toLoadRect hl) fun _ =>
              .op (.store oM (Rect.unit (s := S512x16) o S128x16.size io) w Finset.univ hx hm) kt) Q) := by
  subst hn
  unfold rows
  iintro ⟨%f, %hf, H⟩ Hk
  iapply (step_load c oM _ f _ rfl) $$ H; iintro H
  iapply (step_store c oM _ f _ w rfl) $$ H; iintro H
  iapply Hk
  iexists ((oM.access (Rect.unit (s := S512x16) o S128x16.size io)).write (Elt F) f w Finset.univ)
  isplitr
  · ipureintro
    intro i hi
    have h := View.read_writes_cons_rows_of_mem (o := 128 * k.val) (oM : Memref sig .tc .vmem S512x16 .f32).view f io w [] i
    have h' := View.read_writes_cons_rows_of_not_mem (o := 128 * k.val) (W := 128) (oM : Memref sig .tc .vmem S512x16 .f32).view f io w [] i ho rfl
    rw [View.writes_singleton] at h h'
    by_cases hb : (i 0).val < 128 * k.val
    · exact (h' (.inl hb)).trans (hf i hb)
    subst hw
    refine (h (inBand i) ho ?_ rfl).trans ?_
    · show (i 0).val = 128 * k.val + (i 0).val % 128
      omega
    unfold outAt
    have e : (⟨(i 0).val / 128 % 4, Nat.mod_lt _ (by decide)⟩ : Fin 4) = k := Fin.ext (by show (i 0).val / 128 % 4 = k.val; omega)
    rw [e]
  iexact H

end Cert.KernelIdeal.Run
-- ==== Proof.PartsKernelIdeal.lean ====
/-
The parts of the kernel's body that touch memory or semaphores, each from what it needs to what it leaves.
-/
module

public import proofs.«01_k».proof.Proof.MovesKernelIdeal

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

variable (K : Dev nD × Fin 11 → ℕ)

/-- The x and z coordinates as the kernel computes them. -/
abbrev xW (c : Dev nD) : BitVec 32 := Scalar.remsi (Scalar.divsi (Dev.word c) 16#32) 2#32
/-- A device's z coordinate, as a word. -/
abbrev zW (c : Dev nD) : BitVec 32 := Scalar.remsi (Scalar.divsi (Dev.word c) 1#32) 4#32

/-- The level of the departure to the partner, -/
theorem lv_xsC (c : Dev nD) : lv (xsC c) () ≤ 0 := le_of_eq (show (if xsQ = xrQ then 2 else if 8 ≤ xsQ.val then 3 else 0) = 0 by decide)
/-- and of the arrival from it. -/
theorem lv_xrC (c : Dev nD) : lv (xrC c) () ≤ 2 := le_of_eq (show (if xrQ = xrQ then 2 else if 8 ≤ xrQ.val then 3 else 0) = 2 by decide)

/-- `Φ` at the own coordinate, nothing at the others. -/
def keep (c : Dev nD) (k : Fin 4) (Φ : sProp 𝕄) : sProp 𝕄 := if k = y c then Φ else iprop(emp)

/-- `Φ` for each of the four coordinates. -/
abbrev each (Φ : Fin 4 → sProp 𝕄) : sProp 𝕄 := iprop(Φ 0 ∗ Φ 1 ∗ Φ 2 ∗ Φ 3)

/-- The handshake: the landing buffer and the slots go to those who will fill them, and theirs come. -/
theorem part1 (c : Dev nD) {Q : _ → sProp 𝕄} :
    iprop(records m ρ K ∗ levAts L lv ∗ owing c (O₀ c) ∗ dutyTok ER (barC (pr c)) 0 (y c) ∗ (∃ f, own (F := F) pM c f)
        ∗ each (fun k => off c k (dutyTok ER (barC (pe c k)) 0 (y c))) ∗ each (fun k => off c k (slotAny (F := F) c k))
        ∗ cred (tallyAt (barC c) () 4) ∗ atPos ER (barC c) 0 ∅ 0)
      ⊢ iprop((owing c (O₁ c) ∗ fin m ρ c 0 ∗ bigSep Finset.univ (barPay (F := F) c)
            -∗ Q ⟨c, xW c, yW c, zW c, Scalar.subi 1#32 (xW c), Scalar.muli (yW c) 128#32⟩)
          -∗ run c (k0_part1_skel (F := F) (Memref.whole cc0_stg0_0) (Memref.isWhole_whole _) (Memref.whole cc0_stg1_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4 cc0_scratch5 cc0_scratch6 cc0_scratch7) Q) := by
  unfold k0_part1_skel O₀
  simp only [Prog.lift, Prog.bind_op, Prog.bind_ret, Prog.pure_eq_ret, wp_deviceId]
  iintro ⟨#Hr, #Hlev, HO, Ht, Hp, ⟨Ht0, Ht1, Ht2, Ht3⟩, ⟨Hs0, Hs1, Hs2, Hs3⟩, Hc, Hat⟩ Hk
  iapply (step_signal_partner m ρ K c _ (dev1_eq c) (O₁ c + owedB c 3 + owedB c 2 + owedB c 1 + owedB c 0)) $$ [HO Ht Hp]
  · isplitr; · iexact Hr
    isplitl [HO]; · iexact HO
    isplitl [Ht] <;> iassumption
  iintro HO
  iapply (step_signal m ρ K c 0 (cond1_iff c) _ (dev2_eq c) (O₁ c + owedB c 3 + owedB c 2 + owedB c 1)) $$ [HO Ht0 Hs0]
  · isplitr; · iexact Hr
    isplitl [HO]; · iexact HO
    isplitl [Ht0] <;> iassumption
  iintro HO
  iapply (step_signal m ρ K c 1 (cond2_iff c) _ (dev3_eq c) (O₁ c + owedB c 3 + owedB c 2)) $$ [HO Ht1 Hs1]
  · isplitr; · iexact Hr
    isplitl [HO]; · iexact HO
    isplitl [Ht1] <;> iassumption
  iintro HO
  iapply (step_signal m ρ K c 2 (cond3_iff c) _ (dev4_eq c) (O₁ c + owedB c 3)) $$ [HO Ht2 Hs2]
  · isplitr; · iexact Hr
    isplitl [HO]; · iexact HO
    isplitl [Ht2] <;> iassumption
  iintro HO
  iapply (step_signal m ρ K c 3 (cond4_iff c) _ (dev5_eq c) (O₁ c)) $$ [HO Ht3 Hs3]
  · isplitr; · iexact Hr
    isplitl [HO]; · iexact HO
    isplitl [Ht3] <;> iassumption
  iintro HO
  iapply (step_barrier m ρ K c) $$ [HO Hc Hat]
  · isplitr; · iexact Hr
    isplitl [HO]; · iexact HO
    isplitr; · iexact Hlev
    isplitl [Hc] <;> iassumption
  iintro H
  unfold run
  rw [wp_ret]; imodintro
  iapply Hk; iexact H

/-! ## The transfer to the partner -/

/-- The candidates go into their buffer and from there to the partner. -/
theorem part10 (c : Dev nD) (w5 w8 w9 : BitVec 32) (v353 v359 v365 v371 v377 v383 v389 v395 v401 v407 v413 v419 : FVec F S128x1 .f32) (v417 : FVec F S128x384 .f32) (v421 : IVec S128x384 1)
    (hv : k0_pay130 v353 v359 v365 v371 v377 v383 v389 v395 v401 v407 v413 v417 v419 v421 = candAt m ρ c) {Q : _ → sProp 𝕄} :
    iprop(records m ρ K ∗ levAts L lv ∗ owing c (O₁ c) ∗ (∃ f, own (F := F) cM c f) ∗ (∃ f, own (F := F) pM (pr c) f)
        ∗ dutyTok ER (xsC c) 0 0 ∗ dutyTok ER (xrC (pr c)) 0 0 ∗ atPos ER (xsC c) 0 ∅ 0)
      ⊢ iprop((owing c (O₂ c) ∗ fin m ρ c xsI ∗ own cM c (candAt m ρ c) -∗ Q ⟨⟩)
          -∗ run c (k0_part10_skel (F := F) (Memref.whole cc0_stg0_0) (Memref.isWhole_whole _) (Memref.whole cc0_stg1_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4 cc0_scratch5 cc0_scratch6 cc0_scratch7
          c w5 w8 w9 v353 v359 v365 v371 v377 v383 v389 v395 v401 v407 v413 v417 v419 v421) Q) := by
  unfold k0_part10_skel
  simp only [Prog.lift, Prog.bind_op, Prog.bind_ret, Prog.pure_eq_ret]
  iintro ⟨#Hr, #Hlev, HO, ⟨%f, Hs⟩, Hp, Ht, Ht', Hat⟩ Hk
  iapply (step_load c cM _ f f (Memref.readAt_unit_zero (Elt F) cc0_scratch0 zero2 _ f)) $$ Hs; iintro Hs
  iapply (step_store c cM _ f _ _ (Memref.write_access_unit_zero_univ (Elt F) cc0_scratch0 zero2 _ f _)) $$ Hs; iintro Hs
  iapply (step_send_partner m ρ K c _ (dev6_eq c) (O₂ c) _ hv) $$ [HO Hs Hp Ht Ht']
  · isplitr; · iexact Hr
    isplitl [HO]; · iexact HO
    isplitl [Hs]; · iexact Hs
    isplitl [Hp]; · iexact Hp
    isplitl [Ht] <;> iassumption
  iintro ⟨HO, Hc⟩
  iapply (step_wait m ρ K c xsI xsQ rfl (busy_xs c) (payload_xs m ρ c 0) 0 (above_mono (by decide) (above_O₂ c)) (lv_xsC c)
    (src := pM) (dst := cM) rfl) $$ [HO Hc Hat]
  · isplitr; · iexact Hr
    isplitl [HO]; · iexact HO
    isplitr; · iexact Hlev
    isplitl [Hc] <;> iassumption
  iintro H
  ihave H := Hk $$ H
  iapply (run_ret (F := F) c (Q := Q) (a := ⟨⟩) rfl); iexact H

/-- The partner's candidates arrive; both are read and their merging begins. -/
theorem part11 (c : Dev nD) {Q : _ → sProp 𝕄} :
    iprop(records m ρ K ∗ levAts L lv ∗ owing c (O₂ c) ∗ own cM c (candAt m ρ c) ∗ cred (tallyAt (xrC c) () N) ∗ atPos ER (xrC c) 0 ∅ 0)
      ⊢ iprop((owing c (O₂ c) ∗ fin m ρ c xrI ∗ own cM c (candAt m ρ c) ∗ own pM c (candAt m ρ (pr c))
            -∗ Q ⟨mergeMax (candAt m ρ c) (candAt m ρ (pr c)) 0, mergeMax (candAt m ρ c) (candAt m ρ (pr c)) 1, mergeMax (candAt m ρ c)
          (candAt m ρ (pr c)) 2, mergeMax (candAt m ρ c) (candAt m ρ (pr c)) 3, mergeMax (candAt m ρ c) (candAt m ρ (pr c)) 4,
          mergeMax (candAt m ρ c) (candAt m ρ (pr c)) 5, mergeRest (candAt m ρ c) (candAt m ρ (pr c)) 6, mergeMax (candAt m ρ c)
          (candAt m ρ (pr c)) 6, broadcastTo S128x32 (mergeMax (candAt m ρ c) (candAt m ρ (pr c)) 6) broadcasts_S128x1_S128x32⟩)
          -∗ run c (k0_part11_skel (F := F) (Memref.whole cc0_stg0_0) (Memref.isWhole_whole _) (Memref.whole cc0_stg1_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4 cc0_scratch5 cc0_scratch6 cc0_scratch7) Q) := by
  unfold k0_part11_skel
  simp only [Prog.lift, Prog.bind_op, Prog.bind_ret, Prog.pure_eq_ret]
  iintro ⟨#Hr, #Hlev, HO, Hs, Hc, Hat⟩ Hk
  iapply (step_wait m ρ K c xrI xrQ rfl (busy_xr c) (payload_xr m ρ c 0) 2 (above_O₂ c) (lv_xrC c)
    (src := cM) (dst := pM) rfl) $$ [HO Hc Hat]
  · isplitr; · iexact Hr
    isplitl [HO]; · iexact HO
    isplitr; · iexact Hlev
    isplitl [Hc] <;> iassumption
  iintro ⟨HO, Hf, Hp⟩
  iapply (step_load c cM _ _ _ (Memref.readAt_unit_zero (Elt F) cc0_scratch0 zero2 _ _)) $$ Hs; iintro Hs
  iapply (step_load c pM _ _ _ (Memref.readAt_unit_zero (Elt F) cc0_scratch1 zero2 _ _)) $$ Hp; iintro Hp
  iapply (run_ret (F := F) c (Q := Q) (a := ⟨mergeMax (candAt m ρ c) (candAt m ρ (pr c)) 0, mergeMax (candAt m ρ c) (candAt m ρ (pr c)) 1, mergeMax (candAt m ρ c)
          (candAt m ρ (pr c)) 2, mergeMax (candAt m ρ c) (candAt m ρ (pr c)) 3, mergeMax (candAt m ρ c) (candAt m ρ (pr c)) 4,
          mergeMax (candAt m ρ c) (candAt m ρ (pr c)) 5, mergeRest (candAt m ρ c) (candAt m ρ (pr c)) 6, mergeMax (candAt m ρ c)
          (candAt m ρ (pr c)) 6, broadcastTo S128x32 (mergeMax (candAt m ρ c) (candAt m ρ (pr c)) 6) broadcasts_S128x1_S128x32⟩) rfl)
  iapply Hk
  isplitl [HO]; · iexact HO
  isplitl [Hf]; · iexact Hf
  isplitl [Hs] <;> iassumption

/-! ## The transfers to the peers -/

/-- The merged candidates go into their buffer and from there to the three peers, of which the first three rows' arrive. -/
theorem part13 (c : Dev nD) (w2 w8 : BitVec 32) (v464 v470 v476 v482 v488 v494 v500 v506 v512 v518 v524 v530 v536 v542 : FVec F S128x1 .f32) (v546 : FVec F S128x32 .f32)
    (hv : k0_pay161 v464 v470 v476 v482 v488 v494 v500 v506 v512 v518 v524 v530 v536 v542 v546 = resAt m ρ c) {Q : _ → sProp 𝕄} :
    iprop(records m ρ K ∗ levAts L lv ∗ owing c (O₂ c) ∗ (∃ f, own (F := F) rM c f)
        ∗ each (fun k => off c k (slotAny (F := F) (pe c k) (y c))) ∗ each (fun k => off c k (dutyTok ER (ysC c k) 0 0))
        ∗ each (fun k => off c k (dutyTok ER (yrC (pe c k) (y c)) 0 0)) ∗ each (fun k => atPos ER (ysC c k) 0 ∅ 0)
        ∗ off c 0 (cred (tallyAt (yrC c 0) () N)) ∗ off c 1 (cred (tallyAt (yrC c 1) () N)) ∗ off c 2 (cred (tallyAt (yrC c 2) () N))
        ∗ keep c 0 (slotAny (F := F) c 0) ∗ keep c 1 (slotAny (F := F) c 1) ∗ keep c 2 (slotAny (F := F) c 2)
        ∗ atPos ER (yrC c 0) 0 ∅ 0 ∗ atPos ER (yrC c 1) 0 ∅ 0 ∗ atPos ER (yrC c 2) 0 ∅ 0)
      ⊢ iprop((owing c 0 ∗ own rM c (resAt m ρ c) ∗ each (fun k => fin m ρ c (ysI k))
            ∗ (fin m ρ c (yrI 0) ∗ slotGot m ρ c 0) ∗ (fin m ρ c (yrI 1) ∗ slotGot m ρ c 1) ∗ (fin m ρ c (yrI 2) ∗ slotGot m ρ c 2) -∗ Q ⟨⟩)
          -∗ run c (k0_part13_skel (F := F) (Memref.whole cc0_stg0_0) (Memref.isWhole_whole _) (Memref.whole cc0_stg1_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4 cc0_scratch5 cc0_scratch6 cc0_scratch7
          c w2 (yW c) w8 v464 v470 v476 v482 v488 v494 v500 v506 v512 v518 v524 v530 v536 v542 v546) Q) := by
  unfold k0_part13_skel O₂ keep
  simp only [Prog.lift, Prog.bind_op, Prog.bind_ret, Prog.pure_eq_ret]
  iintro ⟨#Hr, #Hlev, HO, ⟨%f, Hs⟩, ⟨Hd0, Hd1, Hd2, Hd3⟩, ⟨Ht0, Ht1, Ht2, Ht3⟩, ⟨Hu0, Hu1, Hu2, Hu3⟩, ⟨Ha0, Ha1, Ha2, Ha3⟩, Hc0, Hc1, Hc2, Hw0, Hw1, Hw2, Hb0, Hb1, Hb2⟩ Hk
  iapply (step_load c rM _ f f (Memref.readAt_unit_zero (Elt F) cc0_scratch2 zero2 _ f)) $$ Hs; iintro Hs
  iapply (step_store c rM _ f _ _ ((Memref.write_access_unit_zero_univ (Elt F) cc0_scratch2 zero2 _ f _).trans hv)) $$ Hs; iintro Hs
  iapply (step_send m ρ K c 0 (cond5_iff c) _ (dev7_eq c) (0 + owedY c 3 + owedY c 2 + owedY c 1) (above_mono (by decide) (above_add (above_add (above_add (above_zero 2) (above_Y c 3)) (above_Y c 2)) (above_Y c 1)))
    _ (off3_y c) _ _ (off2_y c) _ _ ys_sem0 _ _ _) $$ [HO Hs Hd0 Ht0 Hu0 Ha0]
  · isplitr; · iexact Hr
    isplitr; · iexact Hlev
    isplitl [HO]; · iexact HO
    isplitl [Hs]; · iexact Hs
    isplitl [Hd0]; · iexact Hd0
    isplitl [Ht0]; · iexact Ht0
    isplitl [Hu0] <;> iassumption
  iintro ⟨HO, Hs, Hf0⟩
  iapply (step_send m ρ K c 1 (cond6_iff c) _ (dev8_eq c) (0 + owedY c 3 + owedY c 2) (above_mono (by decide) (above_add (above_add (above_zero 2) (above_Y c 3)) (above_Y c 2)))
    _ (off5_y c) _ _ (off4_y c) _ _ ys_sem1 _ _ _) $$ [HO Hs Hd1 Ht1 Hu1 Ha1]
  · isplitr; · iexact Hr
    isplitr; · iexact Hlev
    isplitl [HO]; · iexact HO
    isplitl [Hs]; · iexact Hs
    isplitl [Hd1]; · iexact Hd1
    isplitl [Ht1]; · iexact Ht1
    isplitl [Hu1] <;> iassumption
  iintro ⟨HO, Hs, Hf1⟩
  iapply (step_send m ρ K c 2 (cond7_iff c) _ (dev9_eq c) (0 + owedY c 3) (above_mono (by decide) (above_add (above_zero 2) (above_Y c 3)))
    _ (off7_y c) _ _ (off6_y c) _ _ ys_sem2 _ _ _) $$ [HO Hs Hd2 Ht2 Hu2 Ha2]
  · isplitr; · iexact Hr
    isplitr; · iexact Hlev
    isplitl [HO]; · iexact HO
    isplitl [Hs]; · iexact Hs
    isplitl [Hd2]; · iexact Hd2
    isplitl [Ht2]; · iexact Ht2
    isplitl [Hu2] <;> iassumption
  iintro ⟨HO, Hs, Hf2⟩
  iapply (step_send m ρ K c 3 (cond8_iff c) _ (dev10_eq c) 0 (above_zero 0)
    _ (off9_y c) _ _ (off8_y c) _ _ ys_sem3 _ _ _) $$ [HO Hs Hd3 Ht3 Hu3 Ha3]
  · isplitr; · iexact Hr
    isplitr; · iexact Hlev
    isplitl [HO]; · iexact HO
    isplitl [Hs]; · iexact Hs
    isplitl [Hd3]; · iexact Hd3
    isplitl [Ht3]; · iexact Ht3
    isplitl [Hu3] <;> iassumption
  iintro ⟨HO, Hs, Hf3⟩
  iapply (step_recv m ρ K c 0 (ne_iff c 0) _ _ _ (yr_semK 0) _ _) $$ [HO Hc0 Hw0 Hb0]
  · isplitr; · iexact Hr
    isplitr; · iexact Hlev
    isplitl [HO]; · iexact HO
    isplitl [Hc0]; · iexact Hc0
    isplitl [Hw0] <;> iassumption
  iintro ⟨HO, Hg0⟩
  iapply (step_recv m ρ K c 1 (ne_iff c 1) _ _ _ (yr_semK 1) _ _) $$ [HO Hc1 Hw1 Hb1]
  · isplitr; · iexact Hr
    isplitr; · iexact Hlev
    isplitl [HO]; · iexact HO
    isplitl [Hc1]; · iexact Hc1
    isplitl [Hw1] <;> iassumption
  iintro ⟨HO, Hg1⟩
  iapply (step_recv m ρ K c 2 (ne_iff c 2) _ _ _ (yr_semK 2) _ _) $$ [HO Hc2 Hw2 Hb2]
  · isplitr; · iexact Hr
    isplitr; · iexact Hlev
    isplitl [HO]; · iexact HO
    isplitl [Hc2]; · iexact Hc2
    isplitl [Hw2] <;> iassumption
  iintro ⟨HO, Hg2⟩
  iapply (run_ret (F := F) c (Q := Q) (a := ⟨⟩) rfl)
  iapply Hk
  isplitl [HO]; · iexact HO
  isplitl [Hs]; · iexact Hs
  isplitl [Hf0 Hf1 Hf2 Hf3]
  · isplitl [Hf0]; · iexact Hf0
    isplitl [Hf1]; · iexact Hf1
    isplitl [Hf2] <;> iassumption
  isplitl [Hg0]; · iexact Hg0
  isplitl [Hg1] <;> iassumption

/-- The last row's arrival; three bands of the result are stored and the fourth is read. -/
theorem part14 (c : Dev nD) (w2 w8 : BitVec 32) {Q : _ → sProp 𝕄} :
    iprop(records m ρ K ∗ levAts L lv ∗ owing c 0 ∗ off c 3 (cred (tallyAt (yrC c 3) () N)) ∗ keep c 3 (slotAny (F := F) c 3)
        ∗ atPos ER (yrC c 3) 0 ∅ 0 ∗ own rM c (resAt m ρ c) ∗ slotGot m ρ c 0 ∗ slotGot m ρ c 1 ∗ slotGot m ρ c 2 ∗ rows m ρ c 0)
      ⊢ iprop((owing c 0 ∗ fin m ρ c (yrI 3) ∗ own rM c (resAt m ρ c) ∗ each (slotGot m ρ c) ∗ rows m ρ c 3
            -∗ ∀ w : Vec F S1x128x16 .f32, ⌜k0_pay1 (Scalar.cmpi .eq (yW c) 3#32) (resAt m ρ c) w = resAt m ρ (pe c 3)⌝
              -∗ Q ⟨Scalar.cmpi .eq (yW c) 3#32, resAt m ρ c, w⟩)
          -∗ run c (k0_part14_skel (F := F) (Memref.whole cc0_stg0_0) (Memref.isWhole_whole _) (Memref.whole cc0_stg1_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4 cc0_scratch5 cc0_scratch6 cc0_scratch7
          w2 (yW c) w8) Q) := by
  unfold k0_part14_skel keep slotGot
  simp only [Prog.lift, Prog.bind_op, Prog.bind_ret, Prog.pure_eq_ret]
  iintro ⟨#Hr, #Hlev, HO, Hc3, Hw3, Hb3, Hs, ⟨%f0, %hf0, Hg0⟩, ⟨%f1, %hf1, Hg1⟩, ⟨%f2, %hf2, Hg2⟩, Ho⟩ Hk
  iapply (step_recv m ρ K c 3 (ne_iff c 3) _ _ _ (yr_semK 3) _ _) $$ [HO Hc3 Hw3 Hb3]
  · isplitr; · iexact Hr
    isplitr; · iexact Hlev
    isplitl [HO]; · iexact HO
    isplitl [Hc3]; · iexact Hc3
    isplitl [Hw3] <;> iassumption
  unfold slotGot
  iintro ⟨HO, Hf, ⟨%f3, %hf3, Hg3⟩⟩
  iapply (step_load c rM _ _ _ (Memref.readAt_unit_zero (Elt F) cc0_scratch2 zero2 _ _)) $$ Hs; iintro Hs
  iapply (step_load_slot c 0 _ rfl _ f0) $$ Hg0; iintro Hg0 %w0 %hw0
  iapply (step_rows m ρ c 0 0 rfl ![0, 0] rfl (k0_pay162 (yW c) (resAt m ρ c) w0) (out_value m ρ c 0 f0 hf0 w0 hw0)) $$ Ho; iintro Ho
  iapply (step_load c rM _ _ _ (Memref.readAt_unit_zero (Elt F) cc0_scratch2 zero2 _ _)) $$ Hs; iintro Hs
  iapply (step_load_slot c 1 _ rfl _ f1) $$ Hg1; iintro Hg1 %w1 %hw1
  iapply (step_rows m ρ c 1 1 rfl ![128, 0] rfl (k0_pay163 (yW c) (resAt m ρ c) w1) (out_value m ρ c 1 f1 hf1 w1 hw1)) $$ Ho; iintro Ho
  iapply (step_load c rM _ _ _ (Memref.readAt_unit_zero (Elt F) cc0_scratch2 zero2 _ _)) $$ Hs; iintro Hs
  iapply (step_load_slot c 2 _ rfl _ f2) $$ Hg2; iintro Hg2 %w2 %hw2
  iapply (step_rows m ρ c 2 2 rfl ![256, 0] rfl (k0_pay164 (yW c) (resAt m ρ c) w2) (out_value m ρ c 2 f2 hf2 w2 hw2)) $$ Ho; iintro Ho
  iapply (step_load c rM _ _ _ (Memref.readAt_unit_zero (Elt F) cc0_scratch2 zero2 _ _)) $$ Hs; iintro Hs
  iapply (step_load_slot c 3 _ rfl _ f3) $$ Hg3; iintro Hg3 %w3 %hw3
  iapply (run_ret (F := F) c (Q := Q) (a := ⟨Scalar.cmpi .eq (yW c) 3#32, resAt m ρ c, w3⟩) rfl)
  iapply Hk $$ [HO Hf Hs Hg0 Hg1 Hg2 Hg3 Ho]
  · isplitl [HO]; · iexact HO
    isplitl [Hf]; · iexact Hf
    isplitl [Hs]; · iexact Hs
    isplitl [Hg0 Hg1 Hg2 Hg3]
    · isplitl [Hg0]
      · iexists f0; isplitr; · ipureintro; exact hf0
        iexact Hg0
      isplitl [Hg1]
      · iexists f1; isplitr; · ipureintro; exact hf1
        iexact Hg1
      isplitl [Hg2]
      · iexists f2; isplitr; · ipureintro; exact hf2
        iexact Hg2
      iexists f3; isplitr; · ipureintro; exact hf3
      iexact Hg3
    iexact Ho
  ipureintro
  exact out_value m ρ c 3 f3 hf3 w3 hw3

end Cert.KernelIdeal.Run
-- ==== Proof.BodyKernelIdeal.lean ====
/-
One device's run of the kernel's body: from the semaphores and buffers it starts with to the result in place, the
semaphores back at zero.
-/
module

public import proofs.«01_k».proof.Proof.PartsKernelIdeal
public import Idealize.ShloMosaic.Lib.Ring
public import proofs.«01_k».proof.Proof.Gen.KernelIdeal.Points

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

omit [FloatOps F] in
/-- A piece for each y is four pieces. -/
theorem four (Φ : Fin 4 → sProp 𝕄) : bigSep Finset.univ Φ = each Φ := bigSep_univ_eq_bigSepL [0, 1, 2, 3] (by decide) (by decide) Φ
omit [FloatOps F] in
/-- The eleven semaphores by kind. -/
theorem eleven (Φ : Fin 11 → sProp 𝕄) :
    bigSep Finset.univ Φ = iprop(Φ 0 ∗ Φ xsI ∗ Φ xrI ∗ Φ (ysI 0) ∗ Φ (ysI 1) ∗ Φ (ysI 2) ∗ Φ (ysI 3) ∗ Φ (yrI 0) ∗ Φ (yrI 1) ∗ Φ (yrI 2) ∗ Φ (yrI 3)) :=
  bigSep_univ_eq_bigSepL [0, xsI, xrI, ysI 0, ysI 1, ysI 2, ysI 3, yrI 0, yrI 1, yrI 2, yrI 3] (by decide) (by decide) Φ

/-! ## The gathered slots -/

/-- The elements of a slot in the gathered array. -/
abbrev slotSet (k : Fin 4) : Finset S4x128x16.Idx := (slotM k : Memref sig .tc .vmem S128x16 .f32).view.set

omit [FloatOps F] in
/-- A slot, as a rectangle, -/
theorem slot_rect (k : Fin 4) :
    slotSet k = (Rect.unit (s := S4x128x16) ![k.val, 0, 0] S1x128x16.size (slot_inb k)).set :=
  (View.set_reshape _ _).trans (View.set_slice_whole cc0_scratch3 _)

omit [FloatOps F] in
/-- no two of which overlap -/
theorem slots_disjoint (k k' : Fin 4) (h : k ≠ k') :
    Disjoint (slotSet k) (slotSet k') := by
  rw [slot_rect, slot_rect]
  exact Ring.lead_disjoint (s := S4x128x16) 0 1 (fun k : Fin 4 => ![k.val, 0, 0]) S1x128x16.size slot_inb (fun b => (Nat.one_mul _).symm) rfl k k' h

omit [FloatOps F] in
/-- and which make up the whole, -/
theorem slots_cover : Finset.univ.biUnion slotSet = Finset.univ := by
  rw [Finset.biUnion_congr rfl fun k _ => slot_rect k]
  exact Ring.lead_cover (s := S4x128x16) 0 1 (fun k : Fin 4 => ![k.val, 0, 0]) S1x128x16.size slot_inb (fun b => (Nat.one_mul _).symm)
    (by decide) rfl (by decide) rfl

omit [FloatOps F] in
/-- The gathered array is its four slots. -/
theorem slots_split (c : Dev nD) : iprop(∃ f, own (F := F) bM c f) ⊢ each (slotAny (F := F) c) := by
  have h (f : Vec F S4x128x16 .f32) : own (F := F) bM c f ⊢ each (slotAny (F := F) c) := by
    refine (Entails.of_eq ((own_whole c cc0_scratch3 f).trans
      (Ring.pointsTo_blocks (ℓ := (c : Thread nD τ).loc cc0_scratch3) (q := fullShare) slotSet slots_disjoint slots_cover f))).trans ?_
    rw [← four (F := F) (slotAny c)]
    refine bigSep_mono fun k _ => ?_
    unfold slotAny own
    exact BIClass.exists_intro (Φ := fun f : Vec F S4x128x16 .f32 =>
      iprop((slotM k : Memref sig .tc .vmem S128x16 .f32).view.loc (c : Thread nD τ) ↦[(slotM k : Memref sig .tc .vmem S128x16 .f32).view.set]{fullShare} f)) f
  iintro ⟨%f, H⟩
  iapply (h f); iexact H

omit [FloatOps F] in
/-- so that the four slots, filled in any way, are the array again. -/
theorem slots_join (c : Dev nD) (f₀ : Vec F S4x128x16 .f32) : each (slotAny (F := F) c) ⊢ iprop(∃ f, own (F := F) bM c f) := by
  iintro H
  ihave H := (Entails.of_eq (four (F := F) (slotAny c)).symm) $$ H
  ihave H := (Ring.pointsTo_blocks_join_exists (ℓ := (bM : Memref sig .tc .vmem S4x128x16 .f32).view.loc (c : Thread nD τ)) slotSet slots_disjoint slots_cover (q := fullShare) f₀) $$ [H]
  · iexact H
  icases H with ⟨%g, H⟩
  iexists g
  iapply (Entails.of_eq (own_whole (F := F) c cc0_scratch3 g).symm); iexact H

omit [FloatOps F] in
/-- A slot is to be filled by a peer or it is the device's own. -/
theorem slot_cases (c : Dev nD) (k : Fin 4) (Φ : sProp 𝕄) : Φ ⊢ iprop(off c k Φ ∗ keep c k Φ) := by
  unfold off keep
  by_cases h : k = y c
  · rw [if_pos h, if_pos h]; iintro H; isplitr; · iempintro
    iexact H
  · rw [if_neg h, if_neg h]; iintro H; isplitl; · iexact H
    iempintro

omit [FloatOps F] in
/-- Of four pieces, those of another y and that of the own. -/
theorem each_cases (c : Dev nD) (Φ : Fin 4 → sProp 𝕄) : each Φ ⊢ iprop(each (fun k => off c k (Φ k)) ∗ each (fun k => keep c k (Φ k))) := by
  iintro ⟨H0, H1, H2, H3⟩
  ihave H0 := (slot_cases (F := F) c 0 (Φ 0)) $$ H0; icases H0 with ⟨H0, G0⟩
  ihave H1 := (slot_cases (F := F) c 1 (Φ 1)) $$ H1; icases H1 with ⟨H1, G1⟩
  ihave H2 := (slot_cases (F := F) c 2 (Φ 2)) $$ H2; icases H2 with ⟨H2, G2⟩
  ihave H3 := (slot_cases (F := F) c 3 (Φ 3)) $$ H3; icases H3 with ⟨H3, G3⟩
  isplitl [H0 H1 H2 H3]
  · isplitl [H0]; · iexact H0
    isplitl [H1]; · iexact H1
    isplitl [H2]; · iexact H2
    iexact H3
  isplitl [G0]; · iexact G0
  isplitl [G1]; · iexact G1
  isplitl [G2]; · iexact G2
  iexact G3

omit [FloatOps F] in
/-- Take one of four pieces out. -/
theorem pick (j : Fin 4) (P : sProp 𝕄) (Ψ : Fin 4 → sProp 𝕄) :
    each (fun k => if k = j then P else Ψ k) ⊢ iprop(P ∗ each (fun k => if k = j then iprop(emp) else Ψ k)) := by
  match j with
  | 0 => show iprop(P ∗ Ψ 1 ∗ Ψ 2 ∗ Ψ 3) ⊢ iprop(P ∗ emp ∗ Ψ 1 ∗ Ψ 2 ∗ Ψ 3)
         iintro ⟨H, H'⟩; isplitl [H]; · iexact H
         isplitr; · iempintro
         iexact H'
  | 1 => show iprop(Ψ 0 ∗ P ∗ Ψ 2 ∗ Ψ 3) ⊢ iprop(P ∗ Ψ 0 ∗ emp ∗ Ψ 2 ∗ Ψ 3)
         iintro ⟨H0, H, H'⟩; isplitl [H]; · iexact H
         isplitl [H0]; · iexact H0
         isplitr; · iempintro
         iexact H'
  | 2 => show iprop(Ψ 0 ∗ Ψ 1 ∗ P ∗ Ψ 3) ⊢ iprop(P ∗ Ψ 0 ∗ Ψ 1 ∗ emp ∗ Ψ 3)
         iintro ⟨H0, H1, H, H'⟩; isplitl [H]; · iexact H
         isplitl [H0]; · iexact H0
         isplitl [H1]; · iexact H1
         isplitr; · iempintro
         iexact H'
  | 3 => show iprop(Ψ 0 ∗ Ψ 1 ∗ Ψ 2 ∗ P) ⊢ iprop(P ∗ Ψ 0 ∗ Ψ 1 ∗ Ψ 2 ∗ emp)
         iintro ⟨H0, H1, H2, H⟩; isplitl [H]; · iexact H
         isplitl [H0]; · iexact H0
         isplitl [H1]; · iexact H1
         isplitl [H2]; · iexact H2
         iempintro

omit [FloatOps F] in
/-- What the handshake brings: the partner's landing buffer, and the slots on the peers. -/
theorem bar_got (c : Dev nD) :
    bigSep Finset.univ (barPay (F := F) c) ⊢ iprop((∃ f, own (F := F) pM (pr c) f) ∗ each (fun k => off c k (slotAny (F := F) (pe c k) (y c)))) := by
  rw [four]; unfold barPay off; exact pick (y c) _ _

/-! ## The state at the start and at the end -/

variable (K : Dev nD × Fin 11 → ℕ)

/-- The tokens of the signals and transfers a device makes. -/
def payToks (c : Dev nD) : sProp 𝕄 :=
  iprop(dutyTok ER (barC (pr c)) 0 (y c) ∗ each (fun k => off c k (dutyTok ER (barC (pe c k)) 0 (y c)))
    ∗ dutyTok ER (xsC c) 0 0 ∗ dutyTok ER (xrC (pr c)) 0 0
    ∗ each (fun k => off c k (dutyTok ER (ysC c k) 0 0)) ∗ each (fun k => off c k (dutyTok ER (yrC (pe c k) (y c)) 0 0)))

/-- The exchange's ghost state a device starts from: the records, its position on each semaphore, its tokens. -/
def ghost (c : Dev nD) : sProp 𝕄 :=
  iprop(records m ρ K ∗ (bigSep Finset.univ fun i : Fin 11 => atPos ER (kcell (c, i)) 0 ∅ 0) ∗ payToks (F := F) c)

/-- What is owed to the device from the start. -/
def credits (c : Dev nD) : sProp 𝕄 :=
  iprop(cred (tallyAt (barC c) () 4) ∗ cred (tallyAt (xrC c) () N) ∗ each (fun k => off c k (cred (tallyAt (yrC c k) () N))))

/-- What a device starts with, apart from its scratch: tokens, invariants, credits and levels, -/
def start (c : Dev nD) : sProp 𝕄 := iprop((∃ K, ghost m ρ K c) ∗ credits (F := F) c ∗ levAts L lv)

/-- The kernel's own four buffers, at any contents. -/
def scratch (c : Dev nD) : sProp 𝕄 :=
  iprop((∃ f, own (F := F) cM c f) ∗ (∃ f, own (F := F) pM c f) ∗ (∃ f, own (F := F) rM c f) ∗ (∃ f, own (F := F) bM c f))

/-- and with it; -/
def Φ₀ (c : Dev nD) : sProp 𝕄 := iprop(start m ρ c ∗ scratch (F := F) c)
/-- what it ends with: its scratch and all semaphores at zero. -/
def Φ₁ (c : Dev nD) : sProp 𝕄 := iprop(scratch (F := F) c ∗ bigSep Finset.univ fun i : Fin 11 => semVal (kcell (c, i)) 0)

/-- The staged arrays: what they hold at first, what the body makes of them, and what surrounds it. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xstg m ρ c
    | ⟨1, _⟩ => outAt m ρ c
  Φ t := match t with
    | ⟨0, _⟩ => Φ₀ m ρ c
    | ⟨_ + 1, _⟩ => Φ₁ (F := F) c
  q _ := fullShare
  owed t := match t with
    | ⟨0, _⟩ => O₀ c
    | ⟨_ + 1, _⟩ => 0

/-- A staging buffer at contents. -/
abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-- A device done with a semaphore has its count back, at zero. -/
theorem close_one (c : Dev nD) (i : Fin 11) : iprop(records m ρ K ∗ fin m ρ c i) ⊢ |={Set.univ}=> semVal (kcell (c, i)) 0 := by
  unfold fin
  iintro ⟨#Hr, ⟨%R, %hR, Hat⟩⟩
  iapply (Rounds.cell_close ER (Rd m ρ) (Set.mem_univ (K (c, i))) (fun h => h) (R := R) hR)
  isplitr; · iapply (rec_inv m ρ K (c, i)); iexact Hr
  iexact Hat

omit [FloatOps F] in
/-- A fact that stays may be used on every piece. -/
theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

/-- At the end every semaphore is back at zero. -/
theorem close_all (c : Dev nD) :
    iprop(records m ρ K ∗ bigSep Finset.univ (fin m ρ c)) ⊢ |={Set.univ}=> bigSep Finset.univ fun i : Fin 11 => semVal (kcell (c, i)) 0 :=
  (with_persistent fun i _ => close_one m ρ K c i).trans (bigSep_fupd _ _)

/-- Before the body, -/
def bodyPre (c : Dev nD) : sProp 𝕄 :=
  iprop((ghost m ρ K c ∗ credits (F := F) c ∗ levAts L lv ∗ scratch (F := F) c) ∗ owing c (O₀ c)
    ∗ own xM c (xstg m ρ c) ∗ ∃ f, own (F := F) oM c f)
/-- and after it. -/
def bodyPost (c : Dev nD) : sProp 𝕄 :=
  iprop(Φ₁ (F := F) c ∗ owing c 0 ∗ own xM c (xstg m ρ c) ∗ own oM c (outAt m ρ c))

/-- A program in sequence runs its first part, then the rest. -/
theorem run_bind {α β : Type} (c : Dev nD) (p : Prog (TpuEff nD τ sig (Elt F) Λ₀ .tc) α) (k : α → Prog (TpuEff nD τ sig (Elt F) Λ₀ .tc) β) (Q : β → sProp 𝕄) :
    run c p (fun a => run c (k a) Q) ⊢ run c (p.bind k) Q := by unfold run; exact Entails.of_eq (wp_bind ..).symm

/-- A program that has ended. -/
theorem run_end {α : Type} (c : Dev nD) {p : Prog (TpuEff nD τ sig (Elt F) Λ₀ .tc) α} {Q : α → sProp 𝕄} {a : α} (h : p = .ret a) :
    iprop(|={Set.univ}=> Q a) ⊢ run c p Q := by subst h; unfold run; rw [wp_ret]

/-- The body, part by part. -/
theorem sound_body (c : Dev nD) (Kt : PUnit → sProp 𝕄) :
    iprop(bodyPre m ρ K c ∗ (bodyPost m ρ c -∗ Kt ⟨⟩))
      ⊢ run c (cc0_body (F := F) (Memref.whole cc0_stg0_0) (Memref.isWhole_whole _) (Memref.whole cc0_stg1_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4 cc0_scratch5 cc0_scratch6 cc0_scratch7) Kt := by
  rw [cc0_body_eq_skeleton]
  unfold cc0_body_skel
  rw [k0_part1_eq_skeleton, k0_part2_eq_skeleton, k0_part3_eq_skeleton, k0_part4_eq_skeleton, k0_part5_eq_skeleton, k0_part6_eq_skeleton, k0_part7_eq_skeleton,
    k0_part8_eq_skeleton, k0_part9_eq_skeleton, k0_part10_eq_skeleton, k0_part11_eq_skeleton, k0_part12_eq_skeleton, k0_part13_eq_skeleton, k0_part14_eq_skeleton]
  unfold bodyPre ghost payToks credits scratch
  rw [eleven]
  iintro ⟨⟨⟨⟨#Hr, ⟨Hab, Hax, Haz, Hs0, Hs1, Hs2, Hs3, Hv0, Hv1, Hv2, Hv3⟩, ⟨Htb, Htbs, Htx, Htz, Hts, Htv⟩⟩, ⟨Hcb, Hcz, ⟨Hc0, Hc1, Hc2, Hc3⟩⟩, #Hlev, ⟨Hcm, Hpm, Hrm, Hbm⟩⟩, HO, Hx, ⟨%fo, Ho⟩⟩, Hk⟩
  ihave Hsl := (slots_split (F := F) c) $$ Hbm
  ihave Hsl := (each_cases (F := F) c _) $$ Hsl
  icases Hsl with ⟨Hoff, ⟨Hk0, Hk1, Hk2, Hk3⟩⟩
  iapply (run_bind (F := F) c)
  iapply (part1 m ρ K c) $$ [HO Htb Htbs Hoff Hpm Hcb Hab]
  · isplitr; · iexact Hr
    isplitr; · iexact Hlev
    isplitl [HO]; · iexact HO
    isplitl [Htb]; · iexact Htb
    isplitl [Hpm]; · iexact Hpm
    isplitl [Htbs]; · iexact Htbs
    isplitl [Hoff]; · iexact Hoff
    isplitl [Hcb]; · iexact Hcb
    iexact Hab
  iintro ⟨HO, Hf0, Hbar⟩
  ihave Hbar := (bar_got (F := F) c) $$ Hbar
  icases Hbar with ⟨Hpp, Hps⟩
  iapply (run_bind (F := F) c)
  iapply (part2 m ρ c _) $$ Hx; iintro Hx
  iapply (run_bind (F := F) c)
  iapply (part3 (F := F) c (band m ρ c))
  iapply (run_bind (F := F) c)
  iapply (part4 (F := F) c (band m ρ c))
  iapply (run_bind (F := F) c)
  iapply (part5 (F := F) c (band m ρ c))
  iapply (run_bind (F := F) c)
  iapply (part6 (F := F) c (band m ρ c))
  iapply (run_bind (F := F) c)
  iapply (part7 (F := F) c (band m ρ c))
  iapply (run_bind (F := F) c)
  iapply (part8 (F := F) c (band m ρ c))
  iapply (run_bind (F := F) c)
  iapply (part9 (F := F) c (band m ρ c))
  iapply (run_bind (F := F) c)
  iapply (part10 m ρ K c _ _ _ _ _ _ _ _ _ _ _ _ _ _ _ _ _ (cand_eq (band m ρ c))) $$ [HO Hcm Hpp Htx Htz Hax]
  · isplitr; · iexact Hr
    isplitr; · iexact Hlev
    isplitl [HO]; · iexact HO
    isplitl [Hcm]; · iexact Hcm
    isplitl [Hpp]; · iexact Hpp
    isplitl [Htx]; · iexact Htx
    isplitl [Htz]; · iexact Htz
    iexact Hax
  iintro ⟨HO, Hf1, Hcm⟩
  iapply (run_bind (F := F) c)
  iapply (part11 m ρ K c) $$ [HO Hcm Hcz Haz]
  · isplitr; · iexact Hr
    isplitr; · iexact Hlev
    isplitl [HO]; · iexact HO
    isplitl [Hcm]; · iexact Hcm
    isplitl [Hcz]; · iexact Hcz
    iexact Haz
  iintro ⟨HO, Hf2, Hcm, Hpm⟩
  iapply (run_bind (F := F) c)
  iapply (part12 (F := F) c (candAt m ρ c) (candAt m ρ (pr c)))
  iapply (run_bind (F := F) c)
  iapply (part13 m ρ K c _ _ _ _ _ _ _ _ _ _ _ _ _ _ _ _ _ (merge_eq (candAt m ρ c) (candAt m ρ (pr c)))) $$ [HO Hrm Hps Hts Htv Hs0 Hs1 Hs2 Hs3 Hc0 Hc1 Hc2 Hk0 Hk1 Hk2 Hv0 Hv1 Hv2]
  · isplitr; · iexact Hr
    isplitr; · iexact Hlev
    isplitl [HO]; · iexact HO
    isplitl [Hrm]; · iexact Hrm
    isplitl [Hps]; · iexact Hps
    isplitl [Hts]; · iexact Hts
    isplitl [Htv]; · iexact Htv
    isplitl [Hs0 Hs1 Hs2 Hs3]
    · isplitl [Hs0]; · iexact Hs0
      isplitl [Hs1]; · iexact Hs1
      isplitl [Hs2]; · iexact Hs2
      iexact Hs3
    isplitl [Hc0]; · iexact Hc0
    isplitl [Hc1]; · iexact Hc1
    isplitl [Hc2]; · iexact Hc2
    isplitl [Hk0]; · iexact Hk0
    isplitl [Hk1]; · iexact Hk1
    isplitl [Hk2]; · iexact Hk2
    isplitl [Hv0]; · iexact Hv0
    isplitl [Hv1]; · iexact Hv1
    iexact Hv2
  iintro ⟨HO, Hrm, ⟨Hf3, Hf4, Hf5, Hf6⟩, ⟨Hf7, Hg0⟩, ⟨Hf8, Hg1⟩, ⟨Hf9, Hg2⟩⟩
  iapply (run_bind (F := F) c)
  iapply (part14 m ρ K c _ _) $$ [HO Hc3 Hk3 Hv3 Hrm Hg0 Hg1 Hg2 Ho]
  · isplitr; · iexact Hr
    isplitr; · iexact Hlev
    isplitl [HO]; · iexact HO
    isplitl [Hc3]; · iexact Hc3
    isplitl [Hk3]; · iexact Hk3
    isplitl [Hv3]; · iexact Hv3
    isplitl [Hrm]; · iexact Hrm
    isplitl [Hg0]; · iexact Hg0
    isplitl [Hg1]; · iexact Hg1
    isplitl [Hg2]; · iexact Hg2
    unfold rows
    iexists fo; isplitr; · ipureintro; exact fun i hi => absurd hi (Nat.not_lt_zero _)
    iexact Ho
  iintro ⟨HO, Hf10, Hrm, ⟨Hg0, Hg1, Hg2, Hg3⟩, Ho⟩ %w %hw
  iapply (step_rows m ρ c 3 3 rfl ![384, 0] rfl (k0_pay1 (Scalar.cmpi .eq (yW c) 3#32) (resAt m ρ c) w) hw) $$ Ho; iintro Ho
  iapply (run_end (F := F) c (Q := Kt) (a := ⟨⟩) rfl)
  imod (close_all m ρ K c) $$ [Hf0 Hf1 Hf2 Hf3 Hf4 Hf5 Hf6 Hf7 Hf8 Hf9 Hf10] with Hz
  · isplitr; · iexact Hr
    iapply (Entails.of_eq (eleven (F := F) (fin m ρ c)).symm)
    isplitl [Hf0]; · iexact Hf0
    isplitl [Hf1]; · iexact Hf1
    isplitl [Hf2]; · iexact Hf2
    isplitl [Hf3]; · iexact Hf3
    isplitl [Hf4]; · iexact Hf4
    isplitl [Hf5]; · iexact Hf5
    isplitl [Hf6]; · iexact Hf6
    isplitl [Hf7]; · iexact Hf7
    isplitl [Hf8]; · iexact Hf8
    isplitl [Hf9]; · iexact Hf9
    iexact Hf10
  imodintro
  iapply Hk
  unfold bodyPost Φ₁ scratch rows slotGot
  icases Ho with ⟨%g, %hg, Ho⟩
  isplitl [Hcm Hpm Hrm Hg0 Hg1 Hg2 Hg3 Hz]
  · isplitl [Hcm Hpm Hrm Hg0 Hg1 Hg2 Hg3]
    · isplitl [Hcm]; · iexists _; iexact Hcm
      isplitl [Hpm]; · iexists _; iexact Hpm
      isplitl [Hrm]; · iexists _; iexact Hrm
      icases Hg0 with ⟨%g0, -, Hg0⟩
      icases Hg1 with ⟨%g1, -, Hg1⟩
      icases Hg2 with ⟨%g2, -, Hg2⟩
      icases Hg3 with ⟨%g3, -, Hg3⟩
      iapply (slots_join (F := F) c g0)
      unfold slotAny
      isplitl [Hg0]; · iexists g0; iexact Hg0
      isplitl [Hg1]; · iexists g1; iexact Hg1
      isplitl [Hg2]; · iexists g2; iexact Hg2
      iexists g3; iexact Hg3
    iexact Hz
  isplitl [HO]; · iexact HO
  isplitl [Hx]; · iexact Hx
  iapply (Entails.of_eq (congrArg (own oM c) (funext fun i => hg i (i 0).isLt))); iexact Ho

omit [FloatOps F] in
/-- To own a whole staged array, in two spellings. -/
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns
  simp only [Memref.view_whole, View.read_whole, View.set_whole]

set_option maxRecDepth 8000 in
/-- The body meets the pipeline's obligation. -/
theorem body_obligation (c : Dev nD) : BodyObligation (dats (F := F) m ρ 0 c) (defs₀ (F := F)) 𝒱₀ () Set.univ := fun t => by
  rw [show t = t0_0 from fin_N0 t]
  rw [bigSep_W0, bigSep_W0]
  simp only [owns_whole_eq]
  show iprop(Φ₀ m ρ c ∗ (dats m ρ 0 c).owesAt () (t0_0 : Fin cfg0.N).castSucc
      ∗ (∃ d, stg c cc0_stg0_0 ((dats m ρ 0 c).before (0 : Fin 2) t0_0 d)) ∗ (∃ d, stg c cc0_stg1_0 ((dats m ρ 0 c).before (1 : Fin 2) t0_0 d)))
    ⊢ run c (cc0_body (F := F) (Memref.whole cc0_stg0_0) (Memref.isWhole_whole _) (Memref.whole cc0_stg1_0) (Memref.isWhole_whole _)
          (Memref.whole cc0_scratch0) (Memref.isWhole_whole _) (Memref.whole cc0_scratch1) (Memref.isWhole_whole _)
          (Memref.whole cc0_scratch2) (Memref.isWhole_whole _) (Memref.whole cc0_scratch3) (Memref.isWhole_whole _)
          cc0_scratch4 cc0_scratch5 cc0_scratch6 cc0_scratch7)
      fun _ => iprop(Φ₁ (F := F) c ∗ (dats m ρ 0 c).owesAt () (t0_0 : Fin cfg0.N).succ ∗ stg c cc0_stg0_0 (xstg m ρ c) ∗ stg c cc0_stg1_0 (outAt m ρ c))
  unfold Φ₀ start
  iintro ⟨⟨⟨⟨%K, Hg⟩, Hcr, Hlev⟩, Hscr⟩, HO, ⟨%d0, %g0, %hg0, Hx⟩, ⟨%d1, %g1, %hg1, Hout⟩⟩
  have hx : g0 = xstg m ρ c := by rw [hg0]; unfold Dat.before; rw [if_pos (fetch0_0 t0_0)]; rfl
  subst hx
  unfold Dat.owesAt Pipeline.owesWithin
  icases HO with ⟨%W, %hW, HO⟩
  iapply (sound_body m ρ K c _)
  unfold bodyPre bodyPost owing
  isplitl [Hg Hcr Hlev Hscr HO Hx Hout]
  · isplitl [Hg Hcr Hlev Hscr]
    · isplitl [Hg]; · iexact Hg
      isplitl [Hcr]; · iexact Hcr
      isplitl [Hlev]; · iexact Hlev
      iexact Hscr
    isplitl [HO]; · iexists W; iexact HO
    isplitl [Hx]; · iapply (Entails.of_eq (own_whole (F := F) c cc0_stg0_0 _).symm); iexact Hx
    iexists g1; iapply (Entails.of_eq (own_whole (F := F) c cc0_stg1_0 g1).symm); iexact Hout
  iintro ⟨HΦ, ⟨%W', HO⟩, Hx, Hout⟩
  isplitl [HΦ]; · iexact HΦ
  isplitl [HO]
  · iexists W'
    isplitr; · ipureintro; exact fun _ _ => Or.inl trivial
    iexact HO
  isplitl [Hx]
  · iexists _; isplitr; · ipureintro; exact rfl
    iapply (Entails.of_eq (own_whole (F := F) c cc0_stg0_0 _)); iexact Hx
  iexists _; isplitr; · ipureintro; exact rfl
  iapply (Entails.of_eq (own_whole (F := F) c cc0_stg1_0 _)); iexact Hout

end Cert.KernelIdeal.Run
-- ==== Proof.LaunchKernelIdeal.lean ====
/-
The launch: the semaphores' state and the tokens made and dealt to the devices, what each is owed from the start, and the
run of the whole program, which ends with every device's result in place and every semaphore at zero.
-/
module

public import proofs.«01_k».proof.Proof.BodyKernelIdeal
public import Idealize.ShloMosaic.Lib.Pipeline.CollectiveSegs

@[expose] public section

noncomputable section

namespace Cert.KernelIdeal.Run

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The eleven semaphores are the call's own. -/
theorem ownSemFacts : Pipeline.OwnSemFacts cfg0.spec osem := by decide

/-- Every staged array is held whole. -/
theorem share_eq (c : Dev nD) (w : Fin cfg0.W) : (dats m ρ 0 c).share w = fullShare := by unfold Dat.share; split <;> rfl

omit [FloatOps F] in
/-- A device's cells are different semaphores, -/
theorem csem_injective : Function.Injective csem := by decide +kernel
omit [FloatOps F] in
/-- and so are all devices' cells. -/
theorem kcell_injective : Function.Injective kcell := fun a b h =>
  Prod.ext (congrArg (fun g : GSem nD τ sig => g.1.1) h) (csem_injective (congrArg Prod.snd h))

/-! ## The tokens -/

/-- The semaphore and the duty a token belongs to: the barrier's four, then one for each of the others. -/
abbrev tokIx (t : Fin 14) : Fin 11 × Fin 4 := if h : t.val < 4 then (0, ⟨t.val, h⟩) else (⟨t.val - 3, by omega⟩, 0)
/-- A duty's token: the cell, its only round, the duty. -/
abbrev tokOf (ct : Dev nD × Fin 14) : GSem nD τ sig × ℕ × Fin 4 := (kcell (ct.1, (tokIx ct.2).1), 0, (tokIx ct.2).2)

omit [FloatOps F] in
/-- A device's duties are different, -/
theorem tokIx_injective : Function.Injective tokIx := by decide +kernel
omit [FloatOps F] in
/-- and so are all devices' duties. -/
theorem tokOf_injective : Function.Injective tokOf := fun a b h => by
  have h1 := kcell_injective (congrArg Prod.fst h)
  exact Prod.ext (congrArg (fun x : Dev nD × Fin 11 => x.1) h1) (tokIx_injective (Prod.ext (congrArg (fun x : Dev nD × Fin 11 => x.2) h1) (congrArg (fun x => x.2.2) h)))

/-- All cells, -/
def cells : Finset (GSem nD τ sig) := Finset.univ.map ⟨kcell, kcell_injective⟩
/-- all tokens, -/
def allToks : Finset (GSem nD τ sig × ℕ × Fin 4) := Finset.univ.map ⟨tokOf, tokOf_injective⟩
/-- and the ghost state at the launch. -/
def u₀ : UU := (initOf (Pipeline.cells cfgs cellOf_inj) (Pipeline.launchToks cfgs cellOf_inj), initOf cells allToks)

/-- The tokens of a device's own semaphores. -/
def toks (c : Dev nD) : sProp 𝕄 :=
  iprop(each (fun j => dutyTok ER (barC c) 0 j) ∗ dutyTok ER (xsC c) 0 0 ∗ dutyTok ER (xrC c) 0 0
    ∗ each (fun k => dutyTok ER (ysC c k) 0 0) ∗ each (fun k => dutyTok ER (yrC c k) 0 0))

/-- The coordinate `k` of a device's signals leads to: the partner at its own, else the peer. -/
def tgt (c : Dev nD) (k : Fin 4) : Dev nD := if k = y c then pr c else pe c k

omit [FloatOps F] in
/-- Whom a device signals through duty `k` is signalled by it, in turn, through that one's duty. -/
theorem tgt_swap : ∀ a : Dev nD × Fin 4, (tgt (tgt a.1 a.2) (y a.1), y (tgt a.1 a.2)) = a := by decide +kernel
omit [FloatOps F] in
/-- Peers are peers of each other. -/
theorem pe_swap : ∀ a : Dev nD × Fin 4, (pe (pe a.1 a.2) (y a.1), y (pe a.1 a.2)) = a := by decide +kernel

/-- Who signals whom, turned round; -/
def tgtE : Dev nD × Fin 4 ≃ Dev nD × Fin 4 := ⟨fun a => (tgt a.1 a.2, y a.1), fun a => (tgt a.1 a.2, y a.1), tgt_swap, tgt_swap⟩
/-- who sends to whom, -/
def peE : Dev nD × Fin 4 ≃ Dev nD × Fin 4 := ⟨fun a => (pe a.1 a.2, y a.1), fun a => (pe a.1 a.2, y a.1), pe_swap, pe_swap⟩
/-- The exchange of partners, as a permutation. -/
def prE : Dev nD ≃ Dev nD := ⟨pr, pr, pr_pr, pr_pr⟩

omit [FloatOps F] in
/-- A family over devices and coordinates, dealt along a permutation. -/
theorem deal (e : Dev nD × Fin 4 ≃ Dev nD × Fin 4) (Φ : Dev nD × Fin 4 → sProp 𝕄) :
    (bigSep Finset.univ fun c : Dev nD => each fun k => Φ (c, k)) ⊢ bigSep Finset.univ fun c : Dev nD => each fun k => Φ (e (c, k)) := by
  simp only [← four]
  rw [← bigSep_univ_prod Φ, ← bigSep_univ_prod fun a => Φ (e a), ← bigSep_univ_equiv e Φ]

omit [FloatOps F] in
/-- Of four pieces, drop the one of the own y. -/
theorem each_off (c : Dev nD) (Φ : Fin 4 → sProp 𝕄) : each Φ ⊢ each (fun k => off c k (Φ k)) := by
  iintro H; ihave H := (each_cases (F := F) c Φ) $$ H; icases H with ⟨H, -⟩; iexact H

omit [FloatOps F] in
/-- Five pieces of every device, piece by piece, -/
theorem five (A B C D E : Dev nD → sProp 𝕄) : (bigSep Finset.univ fun c => iprop(A c ∗ B c ∗ C c ∗ D c ∗ E c))
    = iprop(bigSep Finset.univ A ∗ bigSep Finset.univ B ∗ bigSep Finset.univ C ∗ bigSep Finset.univ D ∗ bigSep Finset.univ E) := by
  rw [bigSep_sep', bigSep_sep', bigSep_sep', bigSep_sep']

omit [FloatOps F] in
/-- Each device gets the tokens of the signals and transfers it makes. -/
theorem toks_dealt : (bigSep Finset.univ fun c : Dev nD => toks (F := F) c) ⊢ bigSep Finset.univ fun c : Dev nD => payToks (F := F) c := by
  have hb (c : Dev nD) : each (fun k => (dutyTok ER (barC (tgt c k)) 0 (y c) : sProp 𝕄))
      ⊢ iprop(dutyTok ER (barC (pr c)) 0 (y c) ∗ each (fun k => off c k (dutyTok ER (barC (pe c k)) 0 (y c)))) := by
    have e : (fun k => (dutyTok ER (barC (tgt c k)) 0 (y c) : sProp 𝕄))
        = fun k => if k = y c then dutyTok ER (barC (pr c)) 0 (y c) else dutyTok ER (barC (pe c k)) 0 (y c) :=
      funext fun k => by unfold tgt; split <;> rfl
    rw [e]; unfold off; exact pick (y c) _ _
  have h1 : (bigSep Finset.univ fun c : Dev nD => each fun j => (dutyTok ER (barC c) 0 j : sProp 𝕄))
      ⊢ bigSep Finset.univ fun c : Dev nD => iprop(dutyTok ER (barC (pr c)) 0 (y c) ∗ each (fun k => off c k (dutyTok ER (barC (pe c k)) 0 (y c)))) :=
    (deal tgtE fun a => (dutyTok ER (barC a.1) 0 a.2 : sProp 𝕄)).trans (bigSep_mono fun c _ => hb c)
  have h2 : (bigSep Finset.univ fun c : Dev nD => each fun k => (dutyTok ER (yrC c k) 0 0 : sProp 𝕄))
      ⊢ bigSep Finset.univ fun c : Dev nD => each (fun k => off c k (dutyTok ER (yrC (pe c k) (y c)) 0 0 : sProp 𝕄)) :=
    (deal peE fun a => (dutyTok ER (yrC a.1 a.2) 0 0 : sProp 𝕄)).trans (bigSep_mono fun c _ => each_off c _)
  have h3 : (bigSep Finset.univ fun c : Dev nD => each fun k => (dutyTok ER (ysC c k) 0 0 : sProp 𝕄))
      ⊢ bigSep Finset.univ fun c : Dev nD => each (fun k => off c k (dutyTok ER (ysC c k) 0 0 : sProp 𝕄)) :=
    bigSep_mono fun c _ => each_off c _
  have h4 : (bigSep Finset.univ fun c : Dev nD => (dutyTok ER (xrC c) 0 0 : sProp 𝕄)) ⊢ bigSep Finset.univ fun c : Dev nD => (dutyTok ER (xrC (pr c)) 0 0 : sProp 𝕄) :=
    Entails.of_eq (bigSep_univ_equiv prE (fun c : Dev nD => (dutyTok ER (xrC c) 0 0 : sProp 𝕄)))
  have e (c : Dev nD) : iprop((dutyTok ER (barC (pr c)) 0 (y c) ∗ each (fun k => off c k (dutyTok ER (barC (pe c k)) 0 (y c))))
      ∗ dutyTok ER (xsC c) 0 0 ∗ dutyTok ER (xrC (pr c)) 0 0
      ∗ each (fun k => off c k (dutyTok ER (ysC c k) 0 0)) ∗ each (fun k => off c k (dutyTok ER (yrC (pe c k) (y c)) 0 0))) ⊢ payToks (F := F) c := by
    unfold payToks; iintro ⟨⟨Ha, Hb⟩, Hc⟩
    isplitl [Ha]; · iexact Ha
    isplitl [Hb]; · iexact Hb
    iexact Hc
  refine BIBase.Entails.trans ?_ (bigSep_mono fun c _ => e c)
  unfold toks
  refine (Entails.of_eq (five _ _ _ _ _)).trans (BIBase.Entails.trans ?_ (Entails.of_eq (five _ _ _ _ _).symm))
  iintro ⟨H1, H2, H3, H4, H5⟩
  isplitl [H1]; · iapply h1; iexact H1
  isplitl [H2]; · iexact H2
  isplitl [H3]; · iapply h4; iexact H3
  isplitl [H4]; · iapply h3; iexact H4
  iapply h2; iexact H5

/-! ## The semaphores' state -/

/-- What the launch makes for a device; -/
def G (c : Dev nD) : sProp 𝕄 :=
  iprop((bigSep Finset.univ fun i : Fin 11 => roundState ER (Rd m ρ) (kcell (c, i)) 0)
    ∗ (bigSep Finset.univ fun i : Fin 11 => iprop(atPos ER (kcell (c, i)) 0 ∅ 0 ∗ reached ER (kcell (c, i)) 0)) ∗ toks (F := F) c)
/-- what it has once all devices' states are shared. -/
def G' (c : Dev nD) : sProp 𝕄 := iprop(∃ K, ghost m ρ K c)

omit [FloatOps F] in
/-- and fourteen tokens in their four groups. -/
theorem fourteen (Φ : Fin 14 → sProp 𝕄) : bigSep Finset.univ Φ
    ⊢ iprop((Φ 0 ∗ Φ 1 ∗ Φ 2 ∗ Φ 3) ∗ Φ 4 ∗ Φ 5 ∗ (Φ 6 ∗ Φ 7 ∗ Φ 8 ∗ Φ 9) ∗ (Φ 10 ∗ Φ 11 ∗ Φ 12 ∗ Φ 13)) := by
  refine (Entails.of_eq (bigSep_univ_eq_bigSepL [0, 1, 2, 3, 4, 5, 6, 7, 8, 9, 10, 11, 12, 13] (by decide) (by decide) Φ)).trans ?_
  show iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) ⊢ _
  iintro ⟨H0, H1, H2, H3, H4, H5, H6, H7, H8, H9, H⟩
  isplitl [H0 H1 H2 H3]
  · isplitl [H0]; · iexact H0
    isplitl [H1]; · iexact H1
    isplitl [H2]; · iexact H2
    iexact H3
  isplitl [H4]; · iexact H4
  isplitl [H5]; · iexact H5
  isplitl [H6 H7 H8 H9]
  · isplitl [H6]; · iexact H6
    isplitl [H7]; · iexact H7
    isplitl [H8]; · iexact H8
    iexact H9
  iexact H

/-- The launch's ghost state is every device's share of it. -/
theorem fund : BI.own (ER (initOf cells allToks)) ⊢ (|==> bigSep Finset.univ (G m ρ) : sProp 𝕄) := by
  have hX (Φ : GSem nD τ sig → sProp 𝕄) : bigSep cells Φ = bigSep Finset.univ fun c : Dev nD => bigSep Finset.univ fun i : Fin 11 => Φ (kcell (c, i)) := by
    unfold cells; rw [bigSep_map, bigSep_univ_prod]; rfl
  have hT : bigSep allToks (fun x => (dutyTok ER x.1 x.2.1 x.2.2 : sProp 𝕄)) ⊢ bigSep Finset.univ fun c : Dev nD => toks (F := F) c := by
    unfold allToks; rw [bigSep_map, bigSep_univ_prod]
    exact bigSep_mono fun c _ => fourteen _
  iintro HX
  imod (Rounds.fund ER (Rd m ρ) cells allToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := hT $$ Htok
  unfold G; simp only [bigSep_sep']
  isplitl [Hst']; · iexact Hst'
  isplitl [Hat' Hr']
  · isplitl [Hat']; · iexact Hat'
    iexact Hr'
  iexact Htok'

omit [FloatOps F] in
/-- A device's semaphores: the barrier, which is the launch's, and the kernel's own ten. -/
theorem sems_eq (c : Dev nD) :
    (bigSep Finset.univ fun i : Fin 11 => (semVal (kcell (c, i)) 0 : sProp 𝕄))
      = iprop(unscopedSems0 c ∗ Pipeline.ownSems0 (Ix := Unit) (Name := ℕ) (U := UU) (Lvl := ℕ) (Val := Elt F) (τ := τ) osem c) := by
  rw [show (unscopedSems0 c : sProp 𝕄) = semVal (barC c) 0 from by
      unfold unscopedSems0; rw [bigSep_eq_bigSepL_of_eq [SemLoc.reg barS] (by decide) (by decide)]; rfl,
    Pipeline.ownSems0_eq_of_list c osem [0, 1, 2, 3, 4, 5, 6, 7, 8, 9] (by decide) (by decide), eleven]
  rfl

/-- A device's semaphores at zero and its ghost state become the invariants of its cells. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i => iprop(∃ κ : ℕ, cellInv ER (Rd m ρ) κ (kcell (c, i))))
          ∗ (bigSep Finset.univ fun i => iprop(atPos ER (kcell (c, i)) 0 ∅ 0 ∗ reached ER (kcell (c, i)) 0)) ∗ toks (F := F) c) := by
  unfold G
  iintro ⟨Hos, Hus, Hst, Hat, Htok⟩
  ihave Hv := (Entails.of_eq (sems_eq (F := F) c).symm) $$ [Hos Hus]
  · isplitl [Hus]; · iexact Hus
    iexact Hos
  imod (show iprop((bigSep Finset.univ fun i : Fin 11 => semVal (kcell (c, i)) 0) ∗ bigSep Finset.univ fun i : Fin 11 => roundState ER (Rd m ρ) (kcell (c, i)) 0)
      ⊢ (|={Set.univ}=> bigSep Finset.univ fun i => iprop(∃ κ : ℕ, cellInv ER (Rd m ρ) κ (kcell (c, i))) : sProp 𝕄) from by
        rw [← bigSep_sep']
        exact (bigSep_mono fun i _ => (Rounds.body_intro ER (Rd m ρ) (kcell (c, i))).trans inv_alloc).trans (bigSep_fupd _ _)) $$ [Hv Hst] with Hinv
  · isplitl [Hv]; · iexact Hv
    iexact Hst
  imodintro
  isplitl [Hinv]; · iexact Hinv
  isplitl [Hat]; · iexact Hat
  iexact Htok

/-- All devices' invariants and tokens, handed to those that use them. -/
theorem regroup :
    (bigSep Finset.univ fun c : Dev nD => iprop((bigSep Finset.univ fun i => iprop(∃ κ : ℕ, cellInv ER (Rd m ρ) κ (kcell (c, i))))
          ∗ (bigSep Finset.univ fun i => iprop(atPos ER (kcell (c, i)) 0 ∅ 0 ∗ reached ER (kcell (c, i)) 0)) ∗ toks (F := F) c) : sProp 𝕄)
      ⊢ bigSep Finset.univ (G' m ρ) := by
  rw [bigSep_sep', bigSep_sep', ← bigSep_univ_prod (fun ck : Dev nD × Fin 11 => iprop(∃ κ : ℕ, cellInv ER (Rd m ρ) κ (kcell ck))),
    bigSep_congr (s := Finset.univ) (fun (c : Dev nD) _ => bigSep_sep' Finset.univ (fun i : Fin 11 => (atPos ER (kcell (c, i)) 0 ∅ 0 : sProp 𝕄)) (fun i => reached ER (kcell (c, i)) 0)),
    bigSep_sep', ← bigSep_univ_prod (fun ck : Dev nD × Fin 11 => (reached ER (kcell ck) 0 : sProp 𝕄))]
  iintro ⟨HI, ⟨Hat, HR⟩, Htok⟩
  ihave HK := (BI.bigSep_exists_pi Finset.univ (fun (ck : Dev nD × Fin 11) (κ : ℕ) => (cellInv ER (Rd m ρ) κ (kcell ck) : sProp 𝕄))) $$ HI
  icases HK with ⟨%K, HI⟩
  ihave Htk := (toks_dealt (F := F)) $$ Htok
  iapply (with_persistent (F := F) (R := records m ρ K)
    (Φ := fun c : Dev nD => iprop((bigSep Finset.univ fun i : Fin 11 => (atPos ER (kcell (c, i)) 0 ∅ 0 : sProp 𝕄)) ∗ payToks (F := F) c)) fun c _ => by
      unfold G' ghost; iintro H; iexists K; iexact H)
  isplitl [HI HR]
  · unfold records; rw [bigSep_sep']
    isplitl [HI]; · iexact HI
    iexact HR
  rw [bigSep_sep']
  isplitl [Hat]; · iexact Hat
  iexact Htk

/-- All devices' semaphores at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## What is owed at launch -/

/-- What device `d` owes a semaphore. -/
def debt (d : Dev nD) (ck : Dev nD × Fin 11) : ℕ :=
  let arr (k : Fin 4) : ℕ := if k = y d then 0 else if ck = (pe d k, yrI (y d)) then N else 0
  let sig (k : Fin 4) : ℕ := if k = y d then 0 else if ck = (pe d k, 0) then 1 else 0
  0 + arr 3 + arr 2 + arr 1 + arr 0 + (if ck = (pr d, xrI) then N else 0) + sig 3 + sig 2 + sig 1 + sig 0 + (if ck = (pr d, 0) then 1 else 0)

omit [FloatOps F] in
/-- A tally at one cell, read at another. -/
theorem tally_at (ck ck' : Dev nD × Fin 11) (n : ℕ) : (tallyAt (kcell ck') () n : CellTallies nD τ sig Unit) (kcell ck) () = if ck = ck' then n else 0 := by
  rw [tallyAt_apply]
  by_cases h : ck = ck'
  · rw [if_pos ⟨congrArg kcell h, rfl⟩, if_pos h]
  · rw [if_neg fun h' => h (kcell_injective h'.1), if_neg h]

omit [FloatOps F] in
/-- What a device owes to a cell at the launch is its entry in the table. -/
theorem owed_eq (d : Dev nD) (ck : Dev nD × Fin 11) : O₀ d (kcell ck) () = debt d ck := by
  have hY (k : Fin 4) : owedY d k (kcell ck) () = if k = y d then 0 else if ck = (pe d k, yrI (y d)) then N else 0 := by
    unfold owedY; split
    · rfl
    · exact tally_at ck (pe d k, yrI (y d)) N
  have hB (k : Fin 4) : owedB d k (kcell ck) () = if k = y d then 0 else if ck = (pe d k, 0) then 1 else 0 := by
    unfold owedB; split
    · rfl
    · exact tally_at ck (pe d k, 0) 1
  have hX : owedX d (kcell ck) () = if ck = (pr d, xrI) then N else 0 := tally_at ck (pr d, xrI) N
  have hP : owedP d (kcell ck) () = if ck = (pr d, 0) then 1 else 0 := tally_at ck (pr d, 0) 1
  unfold O₀ O₁ O₂ debt
  simp only [Pi.add_apply, Finsupp.add_apply, hY, hB, hX, hP]
  rfl

omit [FloatOps F] in
/-- All together owe four units to a barrier, -/
theorem debt_bar : ∀ c : Dev nD, ∑ d : Dev nD, debt d (c, 0) = 4 := by decide +kernel
omit [FloatOps F] in
/-- one copy's credit to the arrival from the partner, -/
theorem debt_xr : ∀ c : Dev nD, ∑ d : Dev nD, debt d (c, xrI) = N := by decide +kernel
omit [FloatOps F] in
/-- and one to the arrival from each other peer. -/
theorem debt_yr : ∀ (c : Dev nD) (k : Fin 4), k ≠ y c → ∑ d : Dev nD, debt d (c, yrI k) = N := by decide +kernel

omit [FloatOps F] in
/-- A cell's credit at the launch, where the debts to it sum to `n`. -/
theorem launch_at (ck : Dev nD × Fin 11) (n : ℕ) (h : ∑ d : Dev nD, debt d ck = n) :
    tallyOn (kcell ck) (launchCredit (Pipeline.owing O₀) 0 (kcell ck)) = (tallyAt (kcell ck) () n : CellTallies nD τ sig Unit) := by
  unfold tallyAt; refine congrArg _ (Finsupp.ext fun u => ?_); cases u
  rw [Pipeline.launchCredit_owing, Finsupp.single_eq_same, Finset.sum_congr rfl fun d _ => owed_eq d ck, h]

omit [FloatOps F] in
/-- The credits that a device receives at the launch are those it waits for. -/
theorem creds (c : Dev nD) : (Pipeline.launchCred O₀ c : sProp 𝕄) ⊢ credits (F := F) c := by
  have h : (Pipeline.launchCred O₀ c : sProp 𝕄)
      ⊢ bigSep Finset.univ fun i : Fin 11 => cred (tallyOn (kcell (c, i)) (launchCredit (Pipeline.owing O₀) 0 (kcell (c, i)))) := by
    unfold Pipeline.launchCred
    refine (bigSep_subset (Finset.subset_univ (Finset.univ.map ⟨csem, csem_injective⟩))).trans ?_
    rw [bigSep_map]
    exact Entails.refl _
  refine h.trans ?_
  have hy (k : Fin 4) : (cred (tallyOn (kcell (c, yrI k)) (launchCredit (Pipeline.owing O₀) 0 (kcell (c, yrI k)))) : sProp 𝕄)
      ⊢ off c k (cred (tallyAt (yrC c k) () N)) := by
    unfold off; split
    · iintro -; iempintro
    · rename_i hk; exact Entails.of_eq (congrArg cred (launch_at (c, yrI k) N (debt_yr c k hk)))
  rw [eleven]
  unfold credits
  iintro ⟨Hb, -, Hx, -, -, -, -, H0, H1, H2, H3⟩
  isplitl [Hb]; · iapply (Entails.of_eq (congrArg cred (launch_at (c, 0) 4 (debt_bar c)))); iexact Hb
  isplitl [Hx]; · iapply (Entails.of_eq (congrArg cred (launch_at (c, xrI) N (debt_xr c)))); iexact Hx
  isplitl [H0]; · iapply (hy 0); iexact H0
  isplitl [H1]; · iapply (hy 1); iexact H1
  isplitl [H2]; · iapply (hy 2); iexact H2
  iapply (hy 3); iexact H3

/-! ## The run -/

/-- What the launch gives a device is what its body starts with. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start G'
  isplitl
  · isplitl [HG]; · iexact HG
    isplitl [Hc]; · iexact Hc
    iexact Hlev
  · iempintro

omit [FloatOps F] in
/-- The call's scratch is the body's. -/
theorem scratch_eq (c : Dev nD) : (Pipeline.scopedRest cfg0.spec c : sProp 𝕄) = scratch (F := F) c := by
  unfold scratch; simp only [own_whole]; exact scopedRest0_eq c

/-- Into the body, -/
theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, show (Pipeline.scopedRest cfg0.spec c : sProp 𝕄) = scratch (F := F) c from scratch_eq c]
  unfold Φ₀
  iintro ⟨Hs, -, Hr⟩
  isplitl [Hs]; · iexact Hs
  iexact Hr

/-- and out of it. -/
theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ (F := F) c from rfl, show (Pipeline.scopedRest cfg0.spec c : sProp 𝕄) = scratch (F := F) c from scratch_eq c]
  unfold Φ₁
  rw [sems_eq]
  iintro ⟨Hr, Hu, Ho⟩
  isplitl [Hu]; · iexact Hu
  isplitl [Ho]; · iexact Ho
  iexact Hr

omit [FloatOps F] in
/-- The staging copies' semaphores lie below everything that the device owes, -/
theorem may_wait_stage (c : Dev nD) (sm : SemLoc sig) (hs : lv ((c : Thread nD τ), sm) () = 0) (O : CellTallies nD τ sig Unit) (hO : O = O₀ c ∨ O = 0) :
    (levAts L lv : sProp 𝕄) ⊢ MayWait (c : Thread nD τ) sm () O := by
  rcases hO with rfl | rfl
  · exact may_wait c sm 0 (above_O₀ c) (Nat.le_of_eq hs)
  · exact may_wait c sm 0 (above_zero 0) (Nat.le_of_eq hs)

/-- so the pipeline may wait for them. -/
theorem waits (c : Dev nD) : (levAts L lv : sProp 𝕄) ⊢ Pipeline.cellsWaits cfgs (dats m ρ) () 0 c :=
  Pipeline.cellsWaits_intro cfgs (dats m ρ) () 0 c fun w s t =>
    may_wait_stage c _ (by fin_cases w <;> fin_cases s <;> rfl) _ (by
      rcases t with ⟨_ | _, ht⟩
      · exact Or.inl rfl
      · exact Or.inr rfl)

/-- What a device's window holds at the end. -/
def finalA (c : Dev nD) (w : Fin cfg0.W) : Buf (Elt F) ((cfg0.win w).arr.view.loc (c : Thread nD τ)) := (dats m ρ 0 c).arrAt w cfg0.N

/-- Every array of every device ends at its final contents. -/
def Final : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- From any memory with every semaphore at zero, the whole program ends, each device's arrays as `finalA` states them and
    every semaphore back at zero. -/
theorem run_main : θ_run defs (onTc (τ := τ) (main (F := F))) (s₀ m ρ) (fun r => Final m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP]; · iexact HP
      iexact HG)
    (hglob := glob m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu]; · iexact Hu
      iexact HSI)
    (hQ := fun _ h hs => ⟨fun c w => (h c).1 w, sem_eq_zero hs fun c => (h c).2.2⟩)

/-- The argument is as it was. -/
theorem finalA_arg (c : Dev nD) : finalA m ρ c (0 : Fin 2) = (s₀ m ρ).mem (win0_0.arr.view.loc (c : Thread nD τ)) :=
  (dats (F := F) m ρ 0 c).arrAt_in (0 : Fin 2) rfl _

end Cert.KernelIdeal.Run
-- ==== Proof.Sorted.lean ====
/-
What the reference computes, read over the extended reals: the sixteen columns are the elements at the first sixteen
places of each row's stable sort, which puts the row in falling order.
-/
module

public import proofs.«01_k».proof.Proof.Gen.On_exact_where
public import Idealize.ShloMosaic.Lib.ValueIdx
public import Idealize.ShloMosaic.Lib.ValueIdxCore
public import Idealize.ShloMosaic.Lib.WordCmp
public import Idealize.ShloMosaic.Lib.ReduceAll
public import Idealize.ShloMosaic.Lib.SortFacts
public import Idealize.ShloMosaic.Lib.Pipeline.Value
public import Idealize.ShloMosaic.PureOps.Ideal

@[expose] public section

noncomputable section

namespace Cert.On_exact_where

open Cert.On_exact_where.Gen
open Idealize.ShloMosaic Idealize.ShloMosaic.ValueIdx Idealize.ShloMosaic.WordCmp

/-- Over the extended reals the comparator is the order of the keys. -/
theorem comparator_eq (l r : Ideal .f32 × BitVec 32) :
    comparator_f32_i32_d1 l r = BitVec.ofBool (decide ((l.1 : EReal) < r.1)) := by
  have hz (a z : EReal) : Scalar.select (BitVec.ofBool (decide (a = z))) z a = a := by
    by_cases h : a = z
    · rw [decide_eq_true h]; exact h.symm
    · rw [decide_eq_false h]; rfl
  have hn (a b c : EReal) : Scalar.select (BitVec.ofBool (decide (a ≠ a))) b c = c := by
    rw [decide_eq_false (fun h => h rfl)]; rfl
  show BitVec.ofBool (decide (Scalar.select (BitVec.ofBool (decide ((l.1 : EReal) ≠ l.1))) _ (Scalar.select (BitVec.ofBool (decide ((l.1 : EReal) = _))) _ l.1)
    < Scalar.select (BitVec.ofBool (decide ((r.1 : EReal) ≠ r.1))) _ (Scalar.select (BitVec.ofBool (decide ((r.1 : EReal) = _))) _ r.1))) = _
  rw [hn, hn, hz, hz]

/-- The second array of a two-array sort along the columns: its element where the row's sort looks. -/
theorem sort2_second {n l : ℕ} {α β : Type} (cmp : α × β → α × β → BitVec 1) (a : (⟨2, ![n, l]⟩ : Shape).Idx → α) (b : (⟨2, ![n, l]⟩ : Shape).Idx → β)
    (r : Fin n) (k : Fin l) :
    (Host.sort2 ⟨2, ![n, l]⟩ 1 cmp a b).2 (ix2 r k)
      = b (ix2 r (sortedFrom (fun q q' => cmp (a (ix2 r q), b (ix2 r q)) (a (ix2 r q'), b (ix2 r q')) == 1#1) k)) := by
  have ha (q : Fin l) : (ix2 r k : (⟨2, ![n, l]⟩ : Shape).Idx).along 1 q = ix2 r q := by
    funext c
    match c with
    | ⟨0, _⟩ => rfl
    | ⟨1, _⟩ => rfl
  have hR : (fun q q' : Fin l => cmp (a ((ix2 r k : (⟨2, ![n, l]⟩ : Shape).Idx).along 1 q), b ((ix2 r k : (⟨2, ![n, l]⟩ : Shape).Idx).along 1 q))
      (a ((ix2 r k : (⟨2, ![n, l]⟩ : Shape).Idx).along 1 q'), b ((ix2 r k : (⟨2, ![n, l]⟩ : Shape).Idx).along 1 q')) == 1#1)
      = fun q q' => cmp (a (ix2 r q), b (ix2 r q)) (a (ix2 r q'), b (ix2 r q')) == 1#1 := by
    funext q q'; rw [ha, ha]
  rw [← hR]
  exact congrArg b (ha _)

variable (x : FVec Ideal S512x8192 .bf16)

/-- The sorting permutation of a row: greater elements first. -/
def order (r : Fin 512) : Fin 8192 → Fin 8192 :=
  sortedFrom fun k k' => decide ((x (ix2 r k') : EReal) < x (ix2 r k))

/-- The argsort of the negated array is the sorting permutation, row by row. -/
theorem argsort_apply (r : Fin 512) (k : Fin 8192) :
    fn_argsort (F := Ideal) (Host.negf (extf .f32 x Facts.bitsLt_bf16_f32)) (ix2 r k) = BitVec.ofNat 32 (order x r k).val := by
  show (Host.sort2 S512x8192 1 comparator_f32_i32_d1 (Host.negf (extf .f32 x Facts.bitsLt_bf16_f32)) (iotaInDim S512x8192 32 1)).2 (ix2 r k) = _
  rw [sort2_second]
  show BitVec.ofNat 32 (sortedFrom _ k).val = BitVec.ofNat 32 (sortedFrom _ k).val
  refine congrArg (fun R => BitVec.ofNat 32 (sortedFrom R k).val) (funext fun q => funext fun q' => ?_)
  rw [comparator_eq]
  show (BitVec.ofBool (decide (-(x (ix2 r q) : EReal) < -(x (ix2 r q') : EReal))) == 1#1) = _
  by_cases h : (x (ix2 r q') : EReal) < x (ix2 r q)
  · rw [decide_eq_true h, decide_eq_true (EReal.neg_lt_neg_iff.mpr h)]; rfl
  · rw [decide_eq_false h, decide_eq_false (fun h' => h (EReal.neg_lt_neg_iff.mp h'))]; rfl

/-- The places after the wrap of negative ones, as the reference writes it, -/
def place (idx : IVec S512x16 32) : IVec S512x16x1 32 := shapeCast S512x16x1
  (select (cmpi .slt idx (broadcastInDim S512x16 ![] Facts.bcast_S_S512x16 (constantI S_ 32 0#32)))
    (addi idx (broadcastInDim S512x16 ![] Facts.bcast_S_S512x16 (constantI S_ 32 8192#32))) idx) Facts.shapeCasts_S512x16_S512x16x1

/-- and whether they are in range. -/
def inRange (at' : IVec S512x16x1 32) : IVec S512x16x1 1 :=
  andi (cmpi .sge at' (broadcastInDim S512x16x1 ![] Facts.bcast_S_S512x16x1 (constantI S_ 32 0#32)))
    (cmpi .sle at' (broadcastInDim S512x16x1 ![0, 1, 2] Facts.bcast_S1x1x1_S512x16x1_0_1_2 (broadcastInDim S1x1x1 ![2] Facts.bcast_S1_S1x1x1_2 (constantI S1 32 8191#32))))

/-- The reference's reading along rows, in these terms. -/
theorem take_eq (v : FVec Ideal S512x8192 .f32) (idx : IVec S512x16 32) :
    fn_take_along_axis (F := Ideal) v idx
      = select (Host.reduce IntOp.andi (inRange (place idx)) (constantI S_ 1 1#1) Facts.reducesTo_S512x16x1_S512x16_d2 Facts.h_S_)
          (Host.gather gather_S512x8192_S512x16x1_S512x16_n_1_0_0_1_2_11 v (place idx))
          (broadcastInDim S512x16 ![] Facts.bcast_S_S512x16 (constant S_ .f32 0x7FC00000#32)) := rfl

/-- Taking along the rows at places in range reads the array there. -/
theorem take_apply (v : FVec Ideal S512x8192 .f32) (idx : IVec S512x16 32) (p : Fin 512 → Fin 16 → Fin 8192)
    (hp : ∀ r k, idx (ix2 r k) = BitVec.ofNat 32 (p r k).val) (r : Fin 512) (k : Fin 16) :
    fn_take_along_axis (F := Ideal) v idx (ix2 r k) = v (ix2 r (p r k)) := by
  have hlt (r k) : (p r k).val < 8192 := (p r k).isLt
  have hat (r : Fin 512) (k : Fin 16) (u : Fin 1) : place idx (ix3 r k u) = BitVec.ofNat 32 (p r k).val := by
    refine (shapeCast_apply _ _ (ix3 r k u) (ix2 r k) (by
      rw [Shape.rowMajor_val_two, Shape.rowMajor_val_three]
      show r.val * 16 + k.val = (r.val * 16 + k.val) * 1 + u.val
      omega)).trans ?_
    show Scalar.select (IntOp.cmpi .slt (idx (ix2 r k)) (BitVec.ofNat 32 0)) _ (idx (ix2 r k)) = _
    rw [hp, cmpi_slt_ofNat (by have := hlt r k; omega) (by omega)]
    rfl
  have hall (i : S512x16x1.Idx) : inRange (place idx) i = 1#1 := by
    obtain ⟨a, b, u, rfl⟩ : ∃ a b u, i = ix3 a b u := ⟨i 0, i 1, i 2, eq_ix3 i⟩
    show IntOp.andi (IntOp.cmpi .sge (place idx (ix3 a b u)) (BitVec.ofNat 32 0)) (IntOp.cmpi .sle (place idx (ix3 a b u)) (BitVec.ofNat 32 8191)) = 1#1
    have := hlt a b
    rw [hat, (cmpi_sge_ofNat_eq_one_iff (by omega) (by omega)).mpr (by omega), (cmpi_sle_ofNat_eq_one_iff (by omega) (by omega)).mpr (by omega)]
    rfl
  rw [take_eq]
  show Scalar.select (Host.reduce IntOp.andi (inRange (place idx)) (constantI S_ 1 1#1) Facts.reducesTo_S512x16x1_S512x16_d2 Facts.h_S_ (ix2 r k)) _ _ = _
  rw [Host.reduce_andi_one (inRange (place idx)) (constantI S_ 1 1#1) Facts.reducesTo_S512x16x1_S512x16_d2 Facts.h_S_ (ix2 r k) rfl hall, ValueIdx.select_one]
  let d := gather_S512x8192_S512x16x1_S512x16_n_1_0_0_1_2_11
  refine congrArg v (funext fun a => Fin.ext ?_)
  show d.start (ix2 r k) (place idx) a + d.batchCoord (ix2 r k) a + d.offCoord (ix2 r k) a = _
  match a with
  | ⟨0, _⟩ =>
    rw [GatherDims.start_batching _ _ _ _ (List.mem_singleton.mpr rfl),
      GatherDims.offCoord_eq_zero _ _ _ (fun h => ((GatherDims.mem_sKept _ _).mp h).2 (List.mem_singleton.mpr rfl)), Nat.zero_add, Nat.add_zero]
    rfl
  | ⟨1, _⟩ =>
    rw [GatherDims.batchCoord_eq_zero _ _ _ (show (1 : Fin 2) ∉ [0] by decide),
      GatherDims.offCoord_eq_zero _ _ _ (fun h => ((GatherDims.mem_sKept _ _).mp h).1 (List.mem_singleton.mpr rfl)), Nat.add_zero]
    have hw : place idx (d.siIdx (ix2 r k) ⟨0, by decide⟩) = BitVec.ofNat 32 (p r k).val := by
      rw [← hat r k 0]
      refine congrArg (place idx) (funext fun b => ?_)
      match b with
      | ⟨0, _⟩ => rfl
      | ⟨1, _⟩ => rfl
      | ⟨2, _⟩ => rfl
    show min (place idx (d.siIdx (ix2 r k) ⟨0, _⟩)).toInt.toNat (8192 - 1) = (p r k).val
    rw [hw, toInt_ofNat_of_lt (by have := hlt r k; omega)]
    have := hlt r k
    omega

/-- The array the reference ends with. -/
def taken : FVec Ideal S512x16 .f32 :=
  fn_take_along_axis (F := Ideal) (extf .f32 x Facts.bitsLt_bf16_f32)
    (extractStridedSlice S512x16 ![0, 0] (fn_argsort (F := Ideal) (Host.negf (extf .f32 x Facts.bitsLt_bf16_f32))) Facts.slices_S512x8192_S512x16_0_0)

/-- Its element `k` of a row is the row's element at place `k` of the sort. -/
theorem taken_apply (r : Fin 512) (k : Fin 16) : (taken x (ix2 r k) : EReal) = x (ix2 r (order x r ⟨k.val, by omega⟩)) := by
  unfold taken
  rw [take_apply _ _ (fun r k => order x r ⟨k.val, by omega⟩) fun r k => ?_]
  · rfl
  · refine (extractStridedSlice_apply _ _ _ (ix2 r k) (ix2 r ⟨k.val, by omega⟩) fun a => ?_).trans (argsort_apply x r _)
    match a with
    | ⟨0, _⟩ => exact (Nat.zero_add _).symm
    | ⟨1, _⟩ => exact (Nat.zero_add _).symm

/-- Every place of a row is in its order. -/
theorem order_surjective (r : Fin 512) : Function.Surjective (order x r) := sortedFrom_surjective _

/-- The sorted row falls. -/
theorem order_falls (r : Fin 512) (i j : Fin 8192) (h : i ≤ j) : (x (ix2 r (order x r j)) : EReal) ≤ x (ix2 r (order x r i)) := by
  rcases lt_or_eq_of_le h with h | rfl
  · have := sortedFrom_noInversion (fun k k' => decide ((x (ix2 r k') : EReal) < x (ix2 r k))) (fun k k' => decide ((x (ix2 r k') : EReal) < x (ix2 r k)))
      (fun a b hab => decide_eq_false (not_lt.mpr (of_decide_eq_true hab).le)) (fun _ _ h => h)
      (fun a b c hab hbc => decide_eq_false (not_lt.mpr ((not_lt.mp (of_decide_eq_false hab)).trans (not_lt.mp (of_decide_eq_false hbc))))) i j h
    exact not_lt.mp (of_decide_eq_false this)
  · exact le_refl _

end Cert.On_exact_where
-- ==== Proof.Top.lean ====
/-
The greatest values of a family by repeated removal: take the greatest, drop everything that reaches it, and go on. What
the rounds yield when the top of the family is a strictly falling sequence.
-/
module

public import Idealize.ShloMosaic.PureOps.Ideal

@[expose] public section

namespace Cert.Top

variable {ι α : Type} [Fintype ι] [LinearOrder α] [OrderBot α]

/-- The family after `k` rounds: in each, what reaches the greatest value becomes least. -/
def left (f : ι → α) : ℕ → ι → α
  | 0 => f
  | k + 1 => fun i => if Finset.univ.sup (left f k) ≤ left f k i then ⊥ else left f k i

/-- The greatest value after `k` rounds. -/
def nth (f : ι → α) (k : ℕ) : α := Finset.univ.sup (left f k)

/-- No round raises a member. -/
theorem left_le (f : ι → α) : ∀ k i, left f k i ≤ f i
  | 0, _ => le_refl _
  | k + 1, i => by
    show (if _ then ⊥ else left f k i) ≤ f i
    split
    · exact bot_le
    · exact left_le f k i

/-- No round finds more than the one before. -/
theorem nth_succ_le (f : ι → α) (k : ℕ) : nth f (k + 1) ≤ nth f k :=
  Finset.sup_mono_fun fun i _ => by
    show (if _ then ⊥ else left f k i) ≤ left f k i
    split
    · exact bot_le
    · exact le_refl _

/-- After a round there is left exactly what lies below the value it found. -/
theorem left_succ (f : ι → α) (k : ℕ) (i : ι) : left f (k + 1) i = if nth f k ≤ f i then ⊥ else f i := by
  induction k with
  | zero => rfl
  | succ k ih =>
    show (if nth f (k + 1) ≤ left f (k + 1) i then ⊥ else left f (k + 1) i) = _
    rw [ih]
    by_cases h : nth f k ≤ f i
    · rw [if_pos h, if_pos ((nth_succ_le f k).trans h), ite_self]
    · rw [if_neg h]

/-- A value found is one of the family's, or the least. -/
theorem nth_mem (f : ι → α) (k : ℕ) : nth f k = ⊥ ∨ ∃ i, f i = nth f k := by
  by_cases h : nth f k = ⊥
  · exact .inl h
  · right
    have hne : (Finset.univ : Finset ι).Nonempty := by
      by_contra hn; rw [Finset.not_nonempty_iff_eq_empty] at hn
      exact h (by unfold nth; rw [hn]; exact Finset.sup_empty)
    obtain ⟨i, -, hi⟩ := Finset.exists_mem_eq_sup _ hne (left f k)
    refine ⟨i, ?_⟩
    have hi' : nth f k = left f k i := hi
    cases k with
    | zero => exact hi'.symm
    | succ k =>
      rw [left_succ] at hi'
      by_cases hc : nth f k ≤ f i
      · rw [if_pos hc] at hi'; exact absurd hi' h
      · rw [if_neg hc] at hi'; exact hi'.symm

/-- The first round finds the greatest. -/
theorem le_nth_zero (f : ι → α) (i : ι) : f i ≤ nth f 0 := Finset.le_sup (f := f) (Finset.mem_univ i)

/-- What lies below a value found is at most the next. -/
theorem le_nth_succ (f : ι → α) (k : ℕ) (i : ι) (h : f i < nth f k) : f i ≤ nth f (k + 1) := by
  have := Finset.le_sup (f := left f (k + 1)) (Finset.mem_univ i)
  rwa [left_succ, if_neg (not_le.mpr h)] at this

/-- The next value is the least or lies below. -/
theorem nth_succ_lt (f : ι → α) (k : ℕ) (h : nth f (k + 1) ≠ ⊥) : nth f (k + 1) < nth f k := by
  rcases nth_mem f k with hb | _
  · exact absurd (le_bot_iff.mp (hb ▸ nth_succ_le f k)) h
  · refine lt_of_le_of_ne (nth_succ_le f k) fun he => ?_
    have hne : ⊥ < nth f k := bot_lt_iff_ne_bot.mpr (he ▸ h)
    have : nth f (k + 1) < nth f k := (Finset.sup_lt_iff hne).mpr fun i _ => by
      rw [left_succ]; split
      · exact hne
      · rename_i hc; exact not_le.mp hc
    exact absurd he (ne_of_lt this)

/-- A value of the family not found in the first rounds lies below all they found. -/
theorem lt_nth (f : ι → α) (i : ι) (n : ℕ) (h : ∀ r, r ≤ n → nth f r ≠ f i) : ∀ r, r ≤ n → f i < nth f r
  | 0, hr => lt_of_le_of_ne (le_nth_zero f i) (h 0 hr).symm
  | r + 1, hr => lt_of_le_of_ne (le_nth_succ f r i (lt_nth f i n h r (by omega))) (h (r + 1) hr).symm

/-- If the first `r + 1` values found lie above `v`, at least `r + 1` members reach the last of them. -/
theorem card_reach (f : ι → α) (v : α) (r : ℕ) (h : ∀ q, q ≤ r → v < nth f q) :
    r + 1 ≤ (Finset.univ.filter fun i => nth f r ≤ f i).card := by
  have hat (q : ℕ) (hq : q ≤ r) : ∃ i, f i = nth f q := (nth_mem f q).resolve_left (ne_bot_of_gt (h q hq))
  induction r with
  | zero =>
    obtain ⟨i, hi⟩ := hat 0 le_rfl
    exact Finset.card_pos.mpr ⟨i, Finset.mem_filter.mpr ⟨Finset.mem_univ i, hi.ge⟩⟩
  | succ r ih =>
    obtain ⟨i, hi⟩ := hat (r + 1) le_rfl
    have hlt := nth_succ_lt f r (ne_bot_of_gt (h (r + 1) le_rfl))
    refine Nat.lt_of_le_of_lt (ih (fun q hq => h q (by omega)) fun q hq => hat q (by omega)) (Finset.card_lt_card ?_)
    refine Finset.ssubset_iff_of_subset (fun x hx => ?_) |>.mpr ⟨i, ?_, ?_⟩
    · rw [Finset.mem_filter] at hx ⊢; exact ⟨hx.1, hlt.le.trans hx.2⟩
    · exact Finset.mem_filter.mpr ⟨Finset.mem_univ i, hi.ge⟩
    · rw [Finset.mem_filter]; exact fun hx => absurd hx.2 (not_le.mpr (hi ▸ hlt))

/-- A member with fewer than `n` greater ones is found in the first `n` rounds. -/
theorem found_of_above (f : ι → α) (i : ι) (n : ℕ) (h : (Finset.univ.filter fun q => f i < f q).card < n) : ∃ r, r < n ∧ nth f r = f i := by
  by_contra hno
  cases n with
  | zero => omega
  | succ n =>
    have hlt := lt_nth f i n fun r hr he => hno ⟨r, by omega, he⟩
    have hc := card_reach f (f i) n hlt
    have : (Finset.univ.filter fun q => nth f n ≤ f q) ⊆ Finset.univ.filter fun q => f i < f q := fun x hx => by
      rw [Finset.mem_filter] at hx ⊢; exact ⟨hx.1, (hlt n le_rfl).trans_le hx.2⟩
    exact absurd (Finset.card_le_card this) (by omega)

/-! ## A falling top -/

variable (s : ℕ → α) (j : ℕ)

/-- The first members of `s` fall strictly. -/
def Falls : Prop := ∀ k, k < j → s (k + 1) < s k
/-- Whatever reaches `s j` in the family is one of `s 0`, …, `s j`. -/
def Within {ι : Type} (f : ι → α) : Prop := ∀ i, s j ≤ f i → ∃ k, k ≤ j ∧ f i = s k

variable {s j}

/-- A later one of the falling members is less, -/
theorem Falls.lt (hs : Falls s j) {k l : ℕ} (hkl : k < l) (hl : l ≤ j) : s l < s k := by
  induction l with
  | zero => omega
  | succ l ih =>
    rcases Nat.lt_or_ge k l with h | h
    · exact (hs l (by omega)).trans (ih h (by omega))
    · rw [show k = l by omega]; exact hs l (by omega)

/-- and a not earlier one not greater. -/
theorem Falls.le (hs : Falls s j) {k l : ℕ} (hkl : k ≤ l) (hl : l ≤ j) : s l ≤ s k := by
  rcases Nat.lt_or_ge k l with h | h
  · exact (hs.lt h hl).le
  · rw [show k = l by omega]

/-- A family with no values but the least and those of another is of the top where that is. -/
theorem within_of_values {κ : Type} {f : ι → α} {g : κ → α} (hf : Within s j f) (h : ∀ q, g q = ⊥ ∨ ∃ i, f i = g q) : Within s j g := fun q hq => by
  rcases h q with hb | ⟨i, hi⟩
  · exact ⟨j, le_refl _, le_antisymm (hb ▸ bot_le) hq⟩
  · exact hi ▸ hf i (hi ▸ hq)

/-- The rounds never find more than the top, be it strict or not. -/
theorem nth_le (hs : ∀ k l, k ≤ l → l ≤ j → s l ≤ s k) {f : ι → α} (hf : Within s j f) : ∀ r, r ≤ j → nth f r ≤ s r
  | 0, _ => Finset.sup_le fun i _ => by
    by_cases h : s j ≤ f i
    · obtain ⟨k, hk, he⟩ := hf i h; exact he.le.trans (hs 0 k (Nat.zero_le k) hk)
    · exact (not_le.mp h).le.trans (hs 0 j (Nat.zero_le j) le_rfl)
  | r + 1, hr => Finset.sup_le fun i _ => by
    rw [left_succ]
    split
    · exact bot_le
    · rename_i hc
      have hlt : f i < s r := (not_le.mp hc).trans_le (nth_le hs hf r (by omega))
      by_cases h : s j ≤ f i
      · obtain ⟨k, hk, he⟩ := hf i h
        rw [he] at hlt ⊢
        exact hs (r + 1) k (Nat.succ_le_of_lt (not_le.mp fun hkr => absurd hlt (not_lt.mpr (hs k r hkr (by omega))))) hk
      · exact (not_le.mp h).le.trans (hs (r + 1) j hr le_rfl)

/-- One of the top values that is in the family is found, by its round at the latest. -/
theorem found (hs : Falls s j) {f : ι → α} (hf : Within s j f) {k : ℕ} (hk : k ≤ j) {i : ι} (hi : f i = s k) : ∃ r, r ≤ k ∧ nth f r = s k := by
  by_contra hno
  have hlt := lt_nth f i k fun r hr he => hno ⟨r, hr, he.trans hi⟩
  exact absurd (nth_le (fun _ _ => hs.le) hf k hk) (not_le.mpr (hi ▸ hlt k le_rfl))

/-- If all of the top values are in the family, each is found in its own round. -/
theorem nth_eq (hs : Falls s j) {f : ι → α} (hf : Within s j f) (h : ∀ k, k ≤ j → ∃ i, f i = s k) : ∀ k, k ≤ j → nth f k = s k
  | 0, hk => by
    obtain ⟨i, hi⟩ := h 0 hk
    exact le_antisymm (nth_le (fun _ _ => hs.le) hf 0 hk) (hi ▸ le_nth_zero f i)
  | k + 1, hk => by
    obtain ⟨i, hi⟩ := h (k + 1) hk
    refine le_antisymm (nth_le (fun _ _ => hs.le) hf (k + 1) hk) (hi ▸ le_nth_succ f k i ?_)
    rw [hi, nth_eq hs hf h k (by omega)]; exact hs k (by omega)

end Cert.Top

end
-- ==== Proof.Values.lean ====
/-
What a device computes, read over the extended reals: the sixteen columns of `cand` and of `merge` are, row by row,
the greatest values of the row found by repeated removal.
-/
module

public import proofs.«01_k».proof.Proof.CandKernelIdeal
public import proofs.«01_k».proof.Proof.Top
public import Idealize.ShloMosaic.Lib.ValueIdx
public import Idealize.ShloMosaic.Lib.Pipeline.Value
public import Idealize.ShloMosaic.Lib.ValueLayoutCasts
public import Idealize.ShloMosaic.PureOps.Reduce

@[expose] public section

noncomputable section

namespace Cert.KernelIdeal.Run

open Cert.KernelIdeal Cert.KernelIdeal.Gen Cert.Top
open Idealize.ShloMosaic Idealize.ShloMosaic.ValueIdx

/-- The word of minus infinity denotes the least extended real. -/
theorem ideal_low : Ideal.ofBits .f32 0xFF800000#32 = (⊥ : EReal) := by
  simp [Ideal.ofBits, Ideal.ieee]

/-- The value that marks what is dropped is the least. -/
theorem low_eq : (low : Ideal .f32) = (⊥ : EReal) := ideal_low

/-- What reaches `m` becomes the least value, the rest stays. -/
theorem drop_apply {s : Shape} (m v : FVec Ideal s .f32) (i : s.Idx) :
    drop m v i = if (m i : EReal) ≤ v i then (⊥ : EReal) else v i := by
  show (if BitVec.ofBool (decide ((m i : EReal) ≤ v i)) = 1 then (low : Ideal .f32) else v i) = _
  rw [low_eq]
  by_cases h : (m i : EReal) ≤ v i
  · rw [if_pos h, decide_eq_true h]; rfl
  · rw [if_neg h, decide_eq_false h]; rfl

/-- The elementwise maximum of `n + 1` arrays is the greatest of their elements at the place. -/
theorem lmax_apply {s : Shape} (f : ℕ → FVec Ideal s .f32) (n : ℕ) (i : s.Idx) :
    (lmax f n i : EReal) = (Finset.range (n + 1)).sup fun k => (f k i : EReal) := by
  induction n with
  | zero => rw [Finset.range_one, Finset.sup_singleton]; rfl
  | succ n ih =>
    rw [Finset.range_add_one, Finset.sup_insert, ← ih, sup_comm]; rfl

/-- The greatest over the first `n` naturals is the greatest over `Fin n`. -/
theorem range_sup {n : ℕ} (g : ℕ → EReal) : (Finset.range n).sup g = Finset.univ.sup fun k : Fin n => g k.val := by
  refine le_antisymm (Finset.sup_le fun k hk => ?_) (Finset.sup_le fun k _ => Finset.le_sup (f := g) (Finset.mem_range.mpr k.isLt))
  exact Finset.le_sup (f := fun k : Fin n => g k.val) (Finset.mem_univ (⟨k, Finset.mem_range.mp hk⟩ : Fin n))

/-- One lane of a band: the elements of a row 128 columns apart. -/
def lane (v : Vec Ideal S128x4096 .bf16) (r : Fin 128) (l : Fin 128) : Fin 32 → EReal := fun i =>
  v (ix2 r ⟨128 * i.val + l.val, by omega⟩)

/-- Piece `i` of a row, at a lane. -/
theorem chunk_apply (v : Vec Ideal S128x4096 .bf16) (i : Fin 32) (r l : Fin 128) :
    (chunk v i.val (ix2 r l) : EReal) = lane v r l i := by
  have hi : i.val % 32 = i.val := Nat.mod_eq_of_lt i.isLt
  have h2 : (k0_pay2 v : FVec Ideal S128x4096 .f32) = (v : S128x4096.Idx → EReal) := by
    unfold k0_pay2
    simp only [shapeCast_self]
    rfl
  unfold chunk lane
  refine (extractStridedSlice_apply _ _ _ (ix2 r l) (ix2 r ⟨128 * i.val + l.val, by omega⟩) fun a => ?_).trans (congrFun h2 _)
  match a with
  | ⟨0, _⟩ => exact (Nat.zero_add _).symm
  | ⟨1, _⟩ => show 128 * i.val + l.val = 128 * (i.val % 32) + l.val; rw [hi]

/-- After `k` rounds a lane holds what `k` rounds of removal leave. -/
theorem lanes_apply (v : Vec Ideal S128x4096 .bf16) (k : ℕ) (i : Fin 32) (r l : Fin 128) :
    (lanes v k i.val (ix2 r l) : EReal) = left (lane v r l) k i := by
  induction k generalizing i with
  | zero => exact chunk_apply v i r l
  | succ k ih =>
    have hm : (lmax (lanes v k) 31 (ix2 r l) : EReal) = Finset.univ.sup (left (lane v r l) k) := by
      rw [lmax_apply, range_sup]
      exact congrArg _ (funext fun q => ih q)
    show (drop (lmax (lanes v k) 31) (lanes v k i.val) (ix2 r l) : EReal) = _
    rw [drop_apply, hm, ih]; rfl

/-- The greatest of every lane after `k` rounds. -/
theorem lanes_max (v : Vec Ideal S128x4096 .bf16) (k : ℕ) (r l : Fin 128) :
    (lmax (lanes v k) 31 (ix2 r l) : EReal) = nth (lane v r l) k := by
  rw [lmax_apply, range_sup]
  exact congrArg _ (funext fun q => lanes_apply v k q r l)

/-- The three largest values of each lane, place by place. -/
theorem wide_apply (v : Vec Ideal S128x4096 .bf16) (k : Fin 3) (r l : Fin 128) :
    (wide v (ix2 r ⟨128 * k.val + l.val, by omega⟩) : EReal) = nth (lane v r l) k.val := by
  refine Eq.trans ?_ (lanes_max v k.val r l)
  refine concatenate_ofFn_apply (s₁ := S128x128) (t := S128x384) 1 (fun q : Fin 3 => lmax (lanes v q.val) 31)
    concatenates_S128x128_S128x128_S128x128_S128x384_d1 rfl 128 rfl _ k ?_ (ix2 r l) ?_ ?_
  · show (128 * k.val + l.val) / 128 = k.val; omega
  · show l.val = (128 * k.val + l.val) % 128; omega
  · intro b hb
    match b with
    | ⟨0, _⟩ => rfl
    | ⟨1, _⟩ => exact absurd rfl hb

/-- The row of an array. -/
def row {n : ℕ} (v : FVec Ideal (wideS n) .f32) (r : Fin 128) : Fin n → EReal := fun q => v (ix2 r q)

/-- The maximum is commutative -/
instance maxComm : Std.Commutative (FloatOps.maximumf (F := Ideal) (φ := .f32)) := ⟨fun a b => max_comm (a : EReal) b⟩
/-- and associative. -/
instance maxAssoc : Std.Associative (FloatOps.maximumf (F := Ideal) (φ := .f32)) := ⟨fun a b c => max_assoc (a : EReal) b c⟩

/-- The greatest value of a row is the supremum of its elements. -/
theorem rowMax_apply {n : ℕ} (h : (wideS n).Reduces [1] S128) (v : FVec Ideal (wideS n) .f32) (r : Fin 128) (u : Fin 1) :
    (rowMax h v (ix2 r u) : EReal) = Finset.univ.sup (row v r) := by
  unfold rowMax
  rw [shapeCast_a_a1_apply]
  refine (multiReduction_maximumf_eq_fold v 0xFF800000#32 h (.inl rfl) rfl (ix1 r)).trans ?_
  rw [h.fold_filter_drop_single]
  have he : (v ∘ h.lift (ix1 r) : Fin ((wideS n).size 1) → EReal) = row v r := by
    funext q
    refine congrArg v (funext fun a => Fin.ext ?_)
    rw [h.lift_val]
    match a with
    | ⟨0, _⟩ => rfl
    | ⟨1, _⟩ => rfl
  rw [he]
  show Finset.fold max (Ideal.ofBits .f32 0xFF800000#32) (row v r) Finset.univ = _
  rw [ideal_low]; rfl

/-- A row after `k` rounds is what `left` leaves of it. -/
theorem rounds_apply {n : ℕ} (h : (wideS n).Reduces [1] S128) (hb : S128x1.Broadcasts (wideS n)) (v : FVec Ideal (wideS n) .f32)
    (k : ℕ) (r : Fin 128) : row (rounds h hb v k) r = left (row v r) k := by
  induction k with
  | zero => rfl
  | succ k ih =>
    funext q
    show (drop (broadcastTo (wideS n) (rowMax h (rounds h hb v k)) hb) (rounds h hb v k) (ix2 r q) : EReal) = _
    rw [drop_apply, broadcastTo_apply _ _ _ (ix2 r (0 : Fin 1)) (fun a => by
      match a with
      | ⟨0, _⟩ => rfl
      | ⟨1, _⟩ => rfl), rowMax_apply, ih, show (rounds h hb v k (ix2 r q) : EReal) = left (row v r) k q from congrFun ih q]
    rfl

/-- Column `k` of the sixteen is the value that round `k` of removal finds in the row. -/
theorem top_apply {n : ℕ} (h : (wideS n).Reduces [1] S128) (hb : S128x1.Broadcasts (wideS n)) (v : FVec Ideal (wideS n) .f32)
    (r : Fin 128) (k : Fin 16) : (top h hb v (ix2 r k) : EReal) = nth (row v r) k.val := by
  have h1 : (rowMax h (rounds h hb v k.val) (ix2 r (0 : Fin 1)) : EReal) = nth (row v r) k.val := by
    rw [rowMax_apply, rounds_apply]; rfl
  refine Eq.trans ?_ h1
  refine concatenate_ofFn_unit_apply (s₁ := S128x1) (t := S128x16) 1 (fun q : Fin 16 => rowMax h (rounds h hb v q.val))
    concatenates_S128x1_S128x1_S128x1_S128x1_S128x1_S128x1_S128x1_S128x1_S128x1_S128x1_S128x1_S128x1_S128x1_S128x1_S128x1_S128x1_S128x16_d1 rfl rfl (ix2 r k) k rfl
    (ix2 r 0) fun b hb' => ?_
  match b with
  | ⟨0, _⟩ => rfl
  | ⟨1, _⟩ => exact absurd rfl hb'

/-- A device's candidate `k` of a row. -/
theorem cand_apply (v : Vec Ideal S128x4096 .bf16) (r : Fin 128) (k : Fin 16) :
    (cand v (ix2 r k) : EReal) = nth (row (wide v) r) k.val := top_apply _ _ _ r k

/-- Two rows of sixteen, one after the other. -/
def both (a b : Fin 16 → EReal) : Fin 32 → EReal := fun q =>
  if h : q.val < 16 then a ⟨q.val, h⟩ else b ⟨q.val - 16, by omega⟩

/-- The merged candidate `k` of a row. -/
theorem merge_apply (a b : Vec Ideal S128x16 .f32) (r : Fin 128) (k : Fin 16) :
    (merge a b (ix2 r k) : EReal) = nth (both (fun q => a (ix2 r q)) fun q => b (ix2 r q)) k.val := by
  refine (top_apply _ _ _ r k).trans (congrArg (fun f => nth f k.val) (funext fun q => ?_))
  unfold row both
  split
  · rename_i h
    exact concatenate_pair_apply_left (t := S128x32) (s₁ := S128x16) (s₂ := S128x16) 1 a b _ (ix2 r q) rfl (ix2 r ⟨q.val, h⟩) fun c => by
      match c with
      | ⟨0, _⟩ => rfl
      | ⟨1, _⟩ => rfl
  · rename_i h
    refine concatenate_pair_apply_right (t := S128x32) (s₁ := S128x16) (s₂ := S128x16) 1 a b _ (ix2 r q) rfl rfl (ix2 r ⟨q.val - 16, by omega⟩) (fun c hc => ?_) ?_
    · match c with
      | ⟨0, _⟩ => rfl
      | ⟨1, _⟩ => exact absurd rfl hc
    · show q.val - 16 + 16 = q.val; omega

end Cert.KernelIdeal.Run
-- ==== Proof.Mask.lean ====
/-
Where the claim compares. The mask at (row, j) says that the j-th element of the sorted row is the least value, or that
the sorted row falls strictly down to it, no lane has more than three elements above it, and at one of its places it has
fewer than three above it in its lane. A lane is the 32 elements of a half of the row that are 128 apart.
-/
module

public import proofs.«01_k».proof.Proof.Sorted
public import proofs.«01_k».proof.Proof.Values
public import Idealize.ShloMosaic.Lib.StableHlo.Predicate
public import Idealize.ShloMosaic.PureOps.Reduce

@[expose] public section

noncomputable section

namespace Cert.On_exact_where

open Cert.On_exact_where.Gen
open Idealize.ShloMosaic Idealize.ShloMosaic.ValueIdx Idealize.ShloMosaic.WordCmp

variable (x : FVec Ideal S512x8192 .bf16)

/-- At (row, j, k): the sorted row falls from k to k + 1, or k is j at least. -/
def falling (t : FVec Ideal S512x16 .f32) : IVec S512x16x15 1 :=
  ori
    (broadcastInDim S512x16x15 ![0, 1, 2] Facts.bcast_S512x1x15_S512x16x15_0_1_2 (broadcastInDim S512x1x15 ![0, 2] Facts.bcast_S512x15_S512x1x15_0_2
      (cmpf .ogt (extractStridedSlice S512x15 ![0, 0] t Facts.slices_S512x16_S512x15_0_0) (extractStridedSlice S512x15 ![0, 1] t Facts.slices_S512x16_S512x15_0_1))))
    (broadcastInDim S512x16x15 ![0, 1, 2] Facts.bcast_S1x16x15_S512x16x15_0_1_2 (broadcastInDim S1x16x15 ![1, 2] Facts.bcast_S16x15_S1x16x15_1_2
      (cmpi .sge (iotaInDim S16x15 32 1) (iotaInDim S16x15 32 0))))

/-- The array cut into lanes, the same for every j, -/
def lanes (v : FVec Ideal S512x8192 .f32) : FVec Ideal S512x16x2x32x128 .f32 :=
  broadcastInDim S512x16x2x32x128 ![0, 1, 2, 3, 4] Facts.bcast_S512x1x2x32x128_S512x16x2x32x128_0_1_2_3_4 (shapeCast S512x1x2x32x128 v Facts.shapeCasts_S512x8192_S512x1x2x32x128)

/-- and the sorted row's elements, the same for every place of the row. -/
def each (t : FVec Ideal S512x16 .f32) : FVec Ideal S512x16x2x32x128 .f32 :=
  broadcastInDim S512x16x2x32x128 ![0, 1, 2, 3, 4] Facts.bcast_S512x16x1x1x1_S512x16x2x32x128_0_1_2_3_4 (shapeCast S512x16x1x1x1 t Facts.shapeCasts_S512x16_S512x16x1x1x1)

/-- At (row, j, half, lane): how many of the lane's elements are greater than the sorted row's j-th. -/
def above (v : FVec Ideal S512x8192 .f32) (t : FVec Ideal S512x16 .f32) : IVec S512x16x2x128 32 :=
  Host.reduce IntOp.addi (extui 32 (cmpf .ogt (lanes v) (each t)) Facts.natLt_1_32) (constantI S_ 32 0#32) Facts.reducesTo_S512x16x2x32x128_S512x16x2x128_d3 Facts.h_S_

/-- Three, everywhere. -/
def three : IVec S512x16x2x128 32 := broadcastInDim S512x16x2x128 ![] Facts.bcast_S_S512x16x2x128 (constantI S_ 32 3#32)

/-- At (row, j, place): the place does not hold the sorted row's j-th element, or three in its lane are greater. -/
def away (v : FVec Ideal S512x8192 .f32) (t : FVec Ideal S512x16 .f32) : IVec S512x16x2x32x128 1 :=
  ori (cmpf .une (lanes v) (each t))
    (broadcastInDim S512x16x2x32x128 ![0, 1, 2, 3, 4] Facts.bcast_S512x16x2x1x128_S512x16x2x32x128_0_1_2_3_4
      (shapeCast S512x16x2x1x128 (cmpi .sge (above v t) three) Facts.shapeCasts_S512x16x2x128_S512x16x2x1x128))

/-- The mask in these terms. -/
theorem fn_eq : fn (F := Ideal) x
    = ori
        (andi (andi (Host.reduce IntOp.andi (falling (taken x)) (constantI S_ 1 1#1) Facts.reducesTo_S512x16x15_S512x16_d2 Facts.h_S_)
            (Host.reduce IntOp.andi (cmpi .sle (above (extf .f32 x Facts.bitsLt_bf16_f32) (taken x)) three) (constantI S_ 1 1#1) Facts.reducesTo_S512x16x2x128_S512x16_d2_3 Facts.h_S_))
          (noti (Host.reduce IntOp.andi (away (extf .f32 x Facts.bitsLt_bf16_f32) (taken x)) (constantI S_ 1 1#1) Facts.reducesTo_S512x16x2x32x128_S512x16_d2_3_4 Facts.h_S_)))
        (cmpf .oeq (taken x) (broadcastInDim S512x16 ![] Facts.bcast_S_S512x16 (constant S_ .f32 0xFF800000#32))) := rfl

/-- Where `falling` holds at k below j, the row falls from k to k + 1. -/
theorem falling_apply (t : FVec Ideal S512x16 .f32) (r : Fin 512) (j : Fin 16) (k : Fin 15) (h : falling t (ix3 r j k) = 1#1) (hk : k.val < j.val) :
    (t (ix2 r ⟨k.val + 1, by omega⟩) : EReal) < t (ix2 r ⟨k.val, by omega⟩) := by
  have e1 : broadcastInDim S512x16x15 ![0, 1, 2] Facts.bcast_S512x1x15_S512x16x15_0_1_2 (broadcastInDim S512x1x15 ![0, 2] Facts.bcast_S512x15_S512x1x15_0_2
      (cmpf .ogt (extractStridedSlice S512x15 ![0, 0] t Facts.slices_S512x16_S512x15_0_0) (extractStridedSlice S512x15 ![0, 1] t Facts.slices_S512x16_S512x15_0_1))) (ix3 r j k)
      = BitVec.ofBool (decide ((t (ix2 r ⟨k.val + 1, by omega⟩) : EReal) < t (ix2 r ⟨k.val, by omega⟩))) := by
    rw [broadcastInDim_apply _ _ _ (ix3 r j k) (ix3 r (0 : Fin 1) k) (fun a => by
        match a with
        | ⟨0, _⟩ => rfl
        | ⟨1, _⟩ => rfl
        | ⟨2, _⟩ => rfl),
      broadcastInDim_apply _ _ _ (ix3 r (0 : Fin 1) k) (ix2 r k) (fun a => by
        match a with
        | ⟨0, _⟩ => rfl
        | ⟨1, _⟩ => rfl)]
    have h0 : extractStridedSlice S512x15 ![0, 0] t Facts.slices_S512x16_S512x15_0_0 (ix2 r k) = t (ix2 r ⟨k.val, by omega⟩) :=
      extractStridedSlice_apply _ _ _ _ _ fun a => by
        match a with
        | ⟨0, _⟩ => exact (Nat.zero_add _).symm
        | ⟨1, _⟩ => exact (Nat.zero_add _).symm
    have h1 : extractStridedSlice S512x15 ![0, 1] t Facts.slices_S512x16_S512x15_0_1 (ix2 r k) = t (ix2 r ⟨k.val + 1, by omega⟩) :=
      extractStridedSlice_apply _ _ _ _ _ fun a => by
        match a with
        | ⟨0, _⟩ => exact (Nat.zero_add _).symm
        | ⟨1, _⟩ => exact Nat.add_comm _ _
    show BitVec.ofBool (decide ((extractStridedSlice S512x15 ![0, 1] t Facts.slices_S512x16_S512x15_0_1 (ix2 r k) : EReal)
      < extractStridedSlice S512x15 ![0, 0] t Facts.slices_S512x16_S512x15_0_0 (ix2 r k))) = _
    rw [h0, h1]
  have e2 : broadcastInDim S512x16x15 ![0, 1, 2] Facts.bcast_S1x16x15_S512x16x15_0_1_2 (broadcastInDim S1x16x15 ![1, 2] Facts.bcast_S16x15_S1x16x15_1_2
      (cmpi .sge (iotaInDim S16x15 32 1) (iotaInDim S16x15 32 0))) (ix3 r j k) = 0#1 := by
    rw [broadcastInDim_apply _ _ _ (ix3 r j k) (ix3 (0 : Fin 1) j k) (fun a => by
        match a with
        | ⟨0, _⟩ => rfl
        | ⟨1, _⟩ => rfl
        | ⟨2, _⟩ => rfl),
      broadcastInDim_apply _ _ _ (ix3 (0 : Fin 1) j k) (ix2 j k) (fun a => by
        match a with
        | ⟨0, _⟩ => rfl
        | ⟨1, _⟩ => rfl)]
    exact (cmpi_sge_ofNat_eq_zero_iff (a := k.val) (b := j.val) (by omega) (by omega)).mpr (by omega)
  have e3 : falling t (ix3 r j k) = IntOp.ori (BitVec.ofBool (decide ((t (ix2 r ⟨k.val + 1, by omega⟩) : EReal) < t (ix2 r ⟨k.val, by omega⟩)))) 0#1 :=
    congrArg₂ IntOp.ori e1 e2
  rw [e3] at h
  refine (ofBool_decide_eq_one_iff _).mp (Eq.trans ?_ h)
  exact (BitVec.or_zero (x := BitVec.ofBool _)).symm

/-- Where an element of the row is among the lanes. -/
theorem lanes_apply (v : FVec Ideal S512x8192 .f32) (r : Fin 512) (j : Fin 16) (h : Fin 2) (i : Fin 32) (l : Fin 128) :
    lanes v (ix5 r j h i l) = v (ix2 r ⟨4096 * h.val + (128 * i.val + l.val), by omega⟩) := by
  unfold lanes
  rw [broadcastInDim_apply _ _ _ (ix5 r j h i l) (ix5 r (0 : Fin 1) h i l) (fun a => by
      match a with
      | ⟨0, _⟩ => rfl
      | ⟨1, _⟩ => rfl
      | ⟨2, _⟩ => rfl
      | ⟨3, _⟩ => rfl
      | ⟨4, _⟩ => rfl)]
  refine shapeCast_apply _ _ _ _ ?_
  rw [Shape.rowMajor_val_two, Shape.rowMajor_val_five]
  show r.val * 8192 + (4096 * h.val + (128 * i.val + l.val)) = (((r.val * 1 + 0) * 2 + h.val) * 32 + i.val) * 128 + l.val
  omega

/-- What `each` holds. -/
theorem each_apply (t : FVec Ideal S512x16 .f32) (r : Fin 512) (j : Fin 16) (h : Fin 2) (i : Fin 32) (l : Fin 128) :
    each t (ix5 r j h i l) = t (ix2 r j) := by
  unfold each
  rw [broadcastInDim_apply _ _ _ (ix5 r j h i l) (ix5 r j (0 : Fin 1) (0 : Fin 1) (0 : Fin 1)) (fun a => by
      match a with
      | ⟨0, _⟩ => rfl
      | ⟨1, _⟩ => rfl
      | ⟨2, _⟩ => rfl
      | ⟨3, _⟩ => rfl
      | ⟨4, _⟩ => rfl)]
  refine shapeCast_apply _ _ _ _ ?_
  rw [Shape.rowMajor_val_two, Shape.rowMajor_val_five]
  show r.val * 16 + j.val = (((r.val * 16 + j.val) * 1 + 0) * 1 + 0) * 1 + 0
  omega

/-- The sum over the fourth dimension leaves the others. -/
theorem reduces_d3 : S512x16x2x32x128.Reduces [3] S512x16x2x128 := by decide

/-- The places that are summed into one. -/
theorem lift_d3 (r : Fin 512) (j : Fin 16) (h : Fin 2) (l : Fin 128) (i : Fin 32) :
    reduces_d3.lift (ix4 r j h l) i = ix5 r j h i l := by
  funext a
  refine Fin.ext ((reduces_d3.lift_val (ix4 r j h l) i a).trans ?_)
  match a with
  | ⟨0, _⟩ => rfl
  | ⟨1, _⟩ => rfl
  | ⟨2, _⟩ => rfl
  | ⟨3, _⟩ => rfl
  | ⟨4, _⟩ => rfl

/-- The elements of a lane that are greater than the sorted row's j-th. -/
def greater (v : FVec Ideal S512x8192 .f32) (t : FVec Ideal S512x16 .f32) (r : Fin 512) (j : Fin 16) (h : Fin 2) (l : Fin 128) : Finset (Fin 32) :=
  Finset.univ.filter fun i => (t (ix2 r j) : EReal) < v (ix2 r ⟨4096 * h.val + (128 * i.val + l.val), by omega⟩)

/-- They are 32 at most. -/
theorem greater_card (v : FVec Ideal S512x8192 .f32) (t : FVec Ideal S512x16 .f32) (r : Fin 512) (j : Fin 16) (h : Fin 2) (l : Fin 128) :
    (greater v t r j h l).card ≤ 32 := (Finset.card_le_univ _).trans (by simp)

/-- `above` counts them. -/
theorem above_apply (v : FVec Ideal S512x8192 .f32) (t : FVec Ideal S512x16 .f32) (r : Fin 512) (j : Fin 16) (h : Fin 2) (l : Fin 128) :
    above v t (ix4 r j h l) = BitVec.ofNat 32 (greater v t r j h l).card := by
  have hle := greater_card v t r j h l
  have hbit (i : Fin 32) : (extui 32 (cmpf .ogt (lanes v) (each t)) Facts.natLt_1_32 (ix5 r j h i l)).toNat
      = if (t (ix2 r j) : EReal) < v (ix2 r ⟨4096 * h.val + (128 * i.val + l.val), by omega⟩) then 1 else 0 := by
    refine (StableHlo.Predicate.toNat_setWidth_bit _).trans (if_congr ?_ rfl rfl)
    show Ideal.cmp .ogt (lanes v (ix5 r j h i l)) (each t (ix5 r j h i l)) = 1#1 ↔ _
    rw [lanes_apply, each_apply]
    exact ofBool_decide_eq_one_iff _
  have hsum : ∑ i : Fin 32, (extui 32 (cmpf .ogt (lanes v) (each t)) Facts.natLt_1_32 (ix5 r j h i l)).toNat = (greater v t r j h l).card :=
    (Finset.sum_congr rfl fun i _ => hbit i).trans (Finset.card_filter _ _).symm
  refine BitVec.eq_of_toNat_eq ?_
  rw [BitVec.toNat_ofNat, Nat.mod_eq_of_lt (by omega)]
  unfold above
  rw [Host.reduce_eq_fold_single _ _ _ _ reduces_d3]
  have he : (extui 32 (cmpf .ogt (lanes v) (each t)) Facts.natLt_1_32 ∘ reduces_d3.lift (ix4 r j h l) : Fin 32 → BitVec 32)
      = fun i => extui 32 (cmpf .ogt (lanes v) (each t)) Facts.natLt_1_32 (ix5 r j h i l) :=
    funext fun i => congrArg (extui 32 (cmpf .ogt (lanes v) (each t)) Facts.natLt_1_32) (lift_d3 r j h l i)
  refine Eq.trans (congrArg (fun g : Fin 32 → BitVec 32 => (Finset.univ.fold IntOp.addi 0#32 g).toNat) he) ?_
  rw [StableHlo.Predicate.toNat_fold_addi _ _ (by rw [hsum]; omega), hsum]

/-- Where `away` fails, the place holds the sorted row's j-th element and fewer than three of its lane are greater. -/
theorem away_apply (v : FVec Ideal S512x8192 .f32) (t : FVec Ideal S512x16 .f32) (r : Fin 512) (j : Fin 16) (h : Fin 2) (i : Fin 32) (l : Fin 128)
    (ha : away v t (ix5 r j h i l) ≠ 1#1) :
    v (ix2 r ⟨4096 * h.val + (128 * i.val + l.val), by omega⟩) = t (ix2 r j) ∧ (greater v t r j h l).card < 3 := by
  have e : away v t (ix5 r j h i l) = IntOp.ori (BitVec.ofBool (decide ((v (ix2 r ⟨4096 * h.val + (128 * i.val + l.val), by omega⟩) : EReal) ≠ t (ix2 r j))))
      (IntOp.cmpi .sge (BitVec.ofNat 32 (greater v t r j h l).card) (BitVec.ofNat 32 3)) := by
    refine congrArg₂ IntOp.ori ?_ ?_
    · show Ideal.cmp .une (lanes v (ix5 r j h i l)) (each t (ix5 r j h i l)) = _
      rw [lanes_apply, each_apply]
      rfl
    · rw [broadcastInDim_apply _ _ _ (ix5 r j h i l) (ix5 r j h (0 : Fin 1) l) (fun a => by
          match a with
          | ⟨0, _⟩ => rfl
          | ⟨1, _⟩ => rfl
          | ⟨2, _⟩ => rfl
          | ⟨3, _⟩ => rfl
          | ⟨4, _⟩ => rfl)]
      refine (shapeCast_apply _ _ (ix5 r j h (0 : Fin 1) l) (ix4 r j h l) ?_).trans ?_
      · rw [Shape.rowMajor_val_four, Shape.rowMajor_val_five]
        show ((r.val * 16 + j.val) * 2 + h.val) * 128 + l.val = (((r.val * 16 + j.val) * 2 + h.val) * 1 + 0) * 128 + l.val
        omega
      · show IntOp.cmpi .sge (above v t (ix4 r j h l)) (BitVec.ofNat 32 3) = _
        rw [above_apply]
  rw [e] at ha
  have hle := greater_card v t r j h l
  constructor
  · by_contra hne
    rw [decide_eq_true hne] at ha
    rcases BitVec.eq_zero_or_eq_one (IntOp.cmpi .sge (BitVec.ofNat 32 (greater v t r j h l).card) (BitVec.ofNat 32 3)) with h0 | h1
    · exact ha (by rw [h0]; rfl)
    · exact ha (by rw [h1]; rfl)
  · by_contra hge
    rw [(cmpi_sge_ofNat_eq_one_iff (by omega) (by omega)).mpr (by omega)] at ha
    rcases BitVec.eq_zero_or_eq_one (BitVec.ofBool (decide ((v (ix2 r ⟨4096 * h.val + (128 * i.val + l.val), by omega⟩) : EReal) ≠ t (ix2 r j)))) with h0 | h1
    · exact ha (by rw [h0]; rfl)
    · exact ha (by rw [h1]; rfl)

/-- A reduction by `and` from 1 that is not 1 met an element that is not. -/
theorem exists_of_reduce_andi {s t u : Shape} {axes : List (Fin s.rank)} (p : s.Idx → BitVec 1) (init : u.Idx → BitVec 1) (h : s.ReducesTo axes t)
    (hu : 0 < u.numel) (j : t.Idx) (hi : init (Shape.Idx.first hu) = 1#1) (e : Host.reduce IntOp.andi p init h hu j ≠ 1#1) :
    ∃ i, h.drop i = j ∧ p i ≠ 1#1 := by
  by_contra hno
  refine e ?_
  rw [Host.reduce_eq_foldl]
  refine IntOp.foldl_andi_one p _ _ hi fun i hm => ?_
  rw [List.mem_filter] at hm
  by_contra hp
  exact hno ⟨i, of_decide_eq_true hm.2, hp⟩

/-- What the mask says of an element of a sorted row that is not the least value. -/
structure Kept (r : Fin 512) (j : Fin 16) : Prop where
  /-- The sorted row falls strictly down to it. -/
  falls : ∀ k : Fin 15, k.val < j.val → (taken x (ix2 r ⟨k.val + 1, by omega⟩) : EReal) < taken x (ix2 r ⟨k.val, by omega⟩)
  /-- No lane has more than three greater elements. -/
  few : ∀ (h : Fin 2) (l : Fin 128), (greater x (taken x) r j h l).card ≤ 3
  /-- At one of its places it has fewer than three greater ones in its lane. -/
  found : ∃ (h : Fin 2) (i : Fin 32) (l : Fin 128), (x (ix2 r ⟨4096 * h.val + (128 * i.val + l.val), by omega⟩) : EReal) = taken x (ix2 r j)
    ∧ (greater x (taken x) r j h l).card < 3

/-- A comparison with the least value that holds. -/
theorem eq_low {s : Shape} (t : FVec Ideal s .f32) (i : s.Idx)
    (h : cmpf .oeq t (fun _ => (FloatOps.ofBits .f32 0xFF800000#32 : Ideal .f32)) i = 1#1) : (t i : EReal) = ⊥ :=
  ((ofBool_decide_eq_one_iff ((t i : EReal) = Ideal.ofBits .f32 0xFF800000#32)).mp h).trans Cert.KernelIdeal.Run.ideal_low

/-- Where the mask holds, the element is the least value or one of the kept. -/
theorem kept_of_fn (r : Fin 512) (j : Fin 16) (hm : fn (F := Ideal) x (ix2 r j) = 1#1) : (taken x (ix2 r j) : EReal) = ⊥ ∨ Kept x r j := by
  rw [fn_eq] at hm
  refine (IntOp.ori_eq_one.mp hm).symm.imp (fun h => ?_) fun h => ?_
  · exact eq_low _ _ h
  · obtain ⟨h12, h3⟩ := IntOp.andi_eq_one.mp h
    obtain ⟨h1, h2⟩ := IntOp.andi_eq_one.mp h12
    refine ⟨fun k hk => falling_apply _ r j k (Host.reduce_andi_eq_one _ _ _ _ _ h1 (ix3 r j k) ?_) hk, fun h l => ?_, ?_⟩
    · funext a
      match a with
      | ⟨0, _⟩ => rfl
      | ⟨1, _⟩ => rfl
    · have h4 : IntOp.cmpi .sle (above (extf .f32 x Facts.bitsLt_bf16_f32) (taken x) (ix4 r j h l)) (BitVec.ofNat 32 3) = 1#1 :=
        Host.reduce_andi_eq_one _ _ _ _ _ h2 (ix4 r j h l) (by
          funext a
          match a with
          | ⟨0, _⟩ => rfl
          | ⟨1, _⟩ => rfl)
      have hle := greater_card (extf .f32 x Facts.bitsLt_bf16_f32) (taken x) r j h l
      rw [above_apply] at h4
      exact ((cmpi_sle_ofNat_eq_one_iff (a := (greater (extf .f32 x Facts.bitsLt_bf16_f32) (taken x) r j h l).card) (by omega) (by omega)).mp h4 :)
    · have h5 : Host.reduce IntOp.andi (away (extf .f32 x Facts.bitsLt_bf16_f32) (taken x)) (constantI S_ 1 1#1) Facts.reducesTo_S512x16x2x32x128_S512x16_d2_3_4 Facts.h_S_ (ix2 r j) ≠ 1#1 := by
        intro h6
        have h7 : ~~~(Host.reduce IntOp.andi (away (extf .f32 x Facts.bitsLt_bf16_f32) (taken x)) (constantI S_ 1 1#1) Facts.reducesTo_S512x16x2x32x128_S512x16_d2_3_4 Facts.h_S_ (ix2 r j)) = 1#1 := h3
        rw [h6] at h7
        exact absurd h7 (by decide)
      obtain ⟨i, hi, ha⟩ := exists_of_reduce_andi _ _ _ _ _ rfl h5
      obtain ⟨a, b, c, d, e, rfl⟩ : ∃ (a : Fin 512) (b : Fin 16) (c : Fin 2) (d : Fin 32) (e : Fin 128), i = ix5 a b c d e := ⟨_, _, _, _, _, eq_ix5 i⟩
      obtain rfl : a = r := congrFun hi 0
      obtain rfl : b = j := congrFun hi 1
      exact ⟨c, d, e, away_apply _ _ _ _ _ _ _ ha⟩

end Cert.On_exact_where
-- ==== Proof.Result.lean ====
/-
The result array of the ideal kernel in terms of its argument: where each device's rows come from, and what the array
holds when the program ends.
-/
module

public import proofs.«01_k».proof.Proof.LaunchKernelIdeal
public import proofs.«01_k».proof.Proof.Values

@[expose] public section

noncomputable section

namespace Cert.KernelIdeal.Run

open Cert.KernelIdeal Cert.KernelIdeal.Gen
open Idealize.ShloMosaic Idealize.ShloMosaic.ValueIdx
open Idealize.ShloMosaic.TcCoe
open Idealize.SL.Sem
open Idealize.ShloMosaic.Pipeline (Dat)

variable (m : (ℓ : Loc nD τ sig) → Buf (Elt Ideal) ℓ) (ρ : Dev nD → PrngReg)

/-- What is written back of a whole staging buffer is its block's reading. -/
theorem cut_whole (G : S512x16.Idx → Elt Ideal .f32) :
    (cfg0.win 1).cut (grid0.coords t0_0) G = (win0_1.blk t0_0).view.read (Elt Ideal) G := by
  funext i
  show G _ = G _
  refine congrArg G (funext fun a => Fin.ext ?_)
  have e : ∀ a, win0_1.index t0_0 a * win0_1.size a = 0 := by decide +kernel
  show (i a).val = win0_1.index t0_0 a * win0_1.size a + 1 * (i a).val
  rw [e]; omega

/-- What is written back to the result array is its only block. -/
theorem flushed_out (c : Dev nD) (t : Fin cfg0.N) :
    (dats m ρ 0 c).flushed 1 t = (win0_1.blk t).view.read (Elt Ideal) (outAt m ρ c) := by
  rcases fin_N0 t with rfl
  exact cut_whole _

/-- The one block of the result is the whole array. -/
theorem cover_out (i : S512x16.Idx) : ∃ t : Fin cfg0.N, (cfg0.win 1).flush t = true ∧ i ∈ ((cfg0.win 1).blk t).view.set := by
  refine ⟨t0_0, flush0_1 _, ?_⟩
  show i ∈ ((View.whole main_v1).slice (win0_1.rect t0_0)).set
  rw [View.set_slice_whole, Rect.mem_set_unit]
  have e : ∀ a, win0_1.index t0_0 a * win0_1.size a = 0 ∧ win0_1.xsize (grid0.coords t0_0) a = S512x16.size a := by
    decide +kernel
  intro a
  show win0_1.index t0_0 a * win0_1.size a ≤ (i a : ℕ) ∧ (i a : ℕ) < win0_1.index t0_0 a * win0_1.size a + win0_1.xsize (grid0.coords t0_0) a
  rw [(e a).1, (e a).2, Nat.zero_add]
  exact ⟨Nat.zero_le _, (i a).isLt⟩

/-- A device's result array ends at the merged candidates, band by band. -/
theorem finalA_out (c : Dev nD) : finalA m ρ c (1 : Fin 2) = outAt m ρ c :=
  (dats m ρ 0 c).arrAt_eq_of_cover 1 (outAt m ρ c) (fun t _ => flushed_out m ρ c t) cover_out

/-- The whole program ends with `outAt` in each result array and the arguments as they were. -/
theorem run_result : θ_run defs (onTc (τ := τ) (main (F := Ideal))) ⟨m, fun _ => 0, ρ⟩ fun r => ∀ c : Dev nD,
      r.2.mem ((c : Thread nD τ).loc main_v1) = outAt m ρ c
      ∧ r.2.mem ((c : Thread nD τ).loc main_arg0) = m ((c : Thread nD τ).loc main_arg0) :=
  (θ_run defs _ _).mono (fun _ h c => ⟨(h.1 c 1).trans (finalA_out m ρ c), (h.1 c 0).trans (finalA_arg m ρ c)⟩)
    (run_main m ρ)

/-- The staged argument is the whole argument. -/
theorem xstg_eq (c : Dev nD) : xstg m ρ c = m ((c : Thread nD τ).loc main_arg0) := by
  funext i
  have e : ∀ a, win0_0.index t0_0 a * win0_0.size a = 0 := by decide +kernel
  refine congrArg (m ((c : Thread nD τ).loc main_arg0)) (funext fun a => Fin.ext ?_)
  show win0_0.index t0_0 a * win0_0.size a + 1 * (i a).val = (i a).val
  rw [e]; omega

/-- A device's band is its argument's rows from 128 times its y coordinate. -/
theorem band_apply (c : Dev nD) (r : Fin 128) (q : Fin 4096) :
    band m ρ c (ix2 r q) = (m ((c : Thread nD τ).loc main_arg0) : S512x4096.Idx → Elt Ideal .bf16)
      (ix2 ⟨128 * (y c).val + r.val, by omega⟩ q) := by
  unfold band
  rw [xstg_eq]
  refine congrArg (m ((c : Thread nD τ).loc main_arg0)) (funext fun a => Fin.ext ?_)
  show k0_off1 c a + 1 * (ix2 r q a).val = _
  rw [off1_y]
  match a with
  | ⟨0, _⟩ => show 128 * (y c).val + 1 * r.val = _; rw [Nat.one_mul]
  | ⟨1, _⟩ => show 0 + 1 * q.val = _; rw [Nat.one_mul, Nat.zero_add]

end Cert.KernelIdeal.Run
-- ==== Proof.Tiers.lean ====
/-
A falling top through the kernel's three rounds of candidates: three of every lane, sixteen of every device's row, sixteen
of two devices' together. What lies in the array at the start and belongs to the top is still there at the end.
-/
module

public import proofs.«01_k».proof.Proof.Values

@[expose] public section

noncomputable section

namespace Cert.KernelIdeal.Run

open Cert.Top
open Idealize.ShloMosaic Idealize.ShloMosaic.ValueIdx

variable {s : ℕ → EReal} {j : ℕ}

/-- Every cell of `wide` is in one of its three pieces. -/
theorem wide_value (v : Vec Ideal S128x4096 .bf16) (r : Fin 128) (q : Fin 384) :
    ∃ (l : Fin 128) (k : ℕ), row (wide v) r q = nth (lane v r l) k := by
  refine ⟨⟨q.val % 128, Nat.mod_lt _ (by decide)⟩, q.val / 128, Eq.trans ?_ (wide_apply v ⟨q.val / 128, by omega⟩ r ⟨q.val % 128, Nat.mod_lt _ (by decide)⟩)⟩
  exact congrArg (fun q => (wide v (ix2 r q) : EReal)) (Fin.ext (Nat.div_add_mod q.val 128).symm)

/-- The lanes' candidates are of the top where the row is. -/
theorem within_wide (v : Vec Ideal S128x4096 .bf16) (r : Fin 128) (h : Within s j fun q : Fin 4096 => (v (ix2 r q) : EReal)) :
    Within s j (row (wide v) r) := by
  refine within_of_values h fun q => ?_
  obtain ⟨l, k, e⟩ := wide_value v r q
  rw [e]
  exact (nth_mem (lane v r l) k).imp_right fun ⟨i, hi⟩ => ⟨⟨128 * i.val + l.val, by omega⟩, hi⟩

/-- A device's candidates are of the top where its row is. -/
theorem within_cand (v : Vec Ideal S128x4096 .bf16) (r : Fin 128) (h : Within s j fun q : Fin 4096 => (v (ix2 r q) : EReal)) :
    Within s j fun k : Fin 16 => (cand v (ix2 r k) : EReal) := by
  refine within_of_values (within_wide v r h) fun k => ?_
  rw [cand_apply]
  exact nth_mem _ _

/-- An element of the row with fewer than three greater ones in its lane is among the lanes' candidates, -/
theorem wide_found (v : Vec Ideal S128x4096 .bf16) (r : Fin 128) (i : Fin 32) (l : Fin 128)
    (hc : (Finset.univ.filter fun i' => lane v r l i < lane v r l i').card < 3) : ∃ q', row (wide v) r q' = lane v r l i := by
  obtain ⟨k, hk, he⟩ := found_of_above (lane v r l) i 3 hc
  exact ⟨⟨128 * k + l.val, by omega⟩, (wide_apply v ⟨k, hk⟩ r l).trans he⟩

/-- and, if it is of the top, among the device's sixteen. -/
theorem cand_found (hs : Falls s j) (hj : j < 16) (v : Vec Ideal S128x4096 .bf16) (r : Fin 128) (h : Within s j fun q : Fin 4096 => (v (ix2 r q) : EReal))
    {k : ℕ} (hk : k ≤ j) (i : Fin 32) (l : Fin 128) (hq : lane v r l i = s k) (hc : (Finset.univ.filter fun i' => s k < lane v r l i').card < 3) :
    ∃ k' : Fin 16, (cand v (ix2 r k') : EReal) = s k := by
  obtain ⟨q', hq'⟩ := wide_found v r i l (by rw [hq]; exact hc)
  obtain ⟨n, hn, he⟩ := found hs (within_wide v r h) hk (hq'.trans hq)
  exact ⟨⟨n, by omega⟩, (cand_apply v r ⟨n, by omega⟩).trans he⟩

/-- Two devices' candidates that are of the top are so together. -/
theorem within_both (a b : Vec Ideal S128x16 .f32) (r : Fin 128)
    (ha : Within s j fun k : Fin 16 => (a (ix2 r k) : EReal)) (hb : Within s j fun k : Fin 16 => (b (ix2 r k) : EReal)) :
    Within s j (both (fun q => (a (ix2 r q) : EReal)) fun q => b (ix2 r q)) := fun q hq => by
  unfold both at hq ⊢
  split at hq
  · rename_i hlt; rw [dif_pos hlt]; exact ha _ hq
  · rename_i hlt; rw [dif_neg hlt]; exact hb _ hq

/-- Merged, they never exceed it, -/
theorem merge_le (hs : ∀ k l, k ≤ l → l ≤ j → s l ≤ s k) (hj : j < 16) (a b : Vec Ideal S128x16 .f32) (r : Fin 128)
    (ha : Within s j fun k : Fin 16 => (a (ix2 r k) : EReal)) (hb : Within s j fun k : Fin 16 => (b (ix2 r k) : EReal)) :
    (merge a b (ix2 r ⟨j, hj⟩) : EReal) ≤ s j :=
  (merge_apply a b r ⟨j, hj⟩).le.trans (nth_le hs (within_both a b r ha hb) j le_rfl)

/-- and are it, in order, if they hold all of it. -/
theorem merge_found (hs : Falls s j) (hj : j < 16) (a b : Vec Ideal S128x16 .f32) (r : Fin 128)
    (ha : Within s j fun k : Fin 16 => (a (ix2 r k) : EReal)) (hb : Within s j fun k : Fin 16 => (b (ix2 r k) : EReal))
    (h : ∀ k, k ≤ j → (∃ q : Fin 16, (a (ix2 r q) : EReal) = s k) ∨ ∃ q : Fin 16, (b (ix2 r q) : EReal) = s k) :
    (merge a b (ix2 r ⟨j, hj⟩) : EReal) = s j := by
  refine (merge_apply a b r ⟨j, hj⟩).trans (nth_eq hs (within_both a b r ha hb) (fun k hk => ?_) j le_rfl)
  rcases h k hk with ⟨q, hq⟩ | ⟨q, hq⟩
  · refine ⟨⟨q.val, by omega⟩, ?_⟩
    unfold both; rw [dif_pos q.isLt]; exact hq
  · refine ⟨⟨q.val + 16, by omega⟩, ?_⟩
    unfold both; rw [dif_neg (by show ¬ q.val + 16 < 16; omega)]
    exact Eq.trans (congrArg (fun q => (b (ix2 r q) : EReal)) (Fin.ext (Nat.add_sub_cancel q.val 16))) hq

end Cert.KernelIdeal.Run
-- ==== Proof.Equation.lean ====
/-
The equation: where the mask holds, each device's result is the reference's.
-/
module

public import proofs.«01_k».proof.Defs
public import proofs.«01_k».proof.Proof.Gen.On_exact_where
public import proofs.«01_k».proof.Proof.Gen.ReferenceIdeal.Run
public import proofs.«01_k».proof.Proof.Mask
public import proofs.«01_k».proof.Proof.Result
public import proofs.«01_k».proof.Proof.Tiers

@[expose] public section

noncomputable section

namespace Cert.KernelIdeal.Run

open Cert.KernelIdeal Cert.KernelIdeal.Gen Cert.Top
open Cert.On_exact_where (taken order order_surjective order_falls taken_apply greater Kept kept_of_fn)
open Idealize.ShloMosaic Idealize.ShloMosaic.ValueIdx
open Idealize.ShloMosaic.TcCoe
open Idealize.SL.Sem

variable (m : (ℓ : Loc nD τ sig) → Buf (Elt Ideal) ℓ) (x : FVec Ideal On_exact_where.S512x8192 .bf16)

/-- Each device holds its half of every row of the whole array. -/
def Holds : Prop :=
  ∀ c : Dev nD, m ((c : Thread nD τ).loc main_arg0) = Layout.blockN ⟨2, ![512, 4096]⟩ ⟨2, ![512, 8192]⟩ (Layout.meshBlock [2, 4, 4] ![[], [0]] c) x

/-- The half of every row a device holds: its x coordinate. -/
def half (c : Dev nD) : Fin 2 := ⟨c.val / 16, by have := c.isLt; simp only [nD] at this; omega⟩

/-- The partner holds the other half. -/
theorem half_pr (c : Dev nD) : (half (pr c)).val = 1 - (half c).val := by revert c; decide +kernel

/-- The elements of a row of the whole array, falling. -/
def sorted (r : Fin 512) (k : ℕ) : EReal := x (ix2 r (order x r ⟨k % 8192, Nat.mod_lt _ (by decide)⟩))

variable {m x}

/-- The array the reference ends with holds the first sixteen. -/
theorem taken_eq_sorted (r : Fin 512) (k : Fin 16) : (taken x (ix2 r k) : EReal) = sorted x r k.val :=
  (taken_apply x r k).trans (congrArg (fun q => (x (ix2 r (order x r q)) : EReal)) (Fin.ext (Nat.mod_eq_of_lt (by omega)).symm))

/-- What reaches an element of the sorted row is one of those before it, or it. -/
theorem within_sorted (r : Fin 512) (j : Fin 16) : Within (sorted x r) j.val fun q : Fin 8192 => (x (ix2 r q) : EReal) := fun p hp => by
  obtain ⟨q, rfl⟩ := order_surjective x r p
  by_cases h : q.val ≤ j.val
  · exact ⟨q.val, h, congrArg (fun q => (x (ix2 r (order x r q)) : EReal)) (Fin.ext (Nat.mod_eq_of_lt q.isLt).symm)⟩
  · refine ⟨j.val, le_rfl, le_antisymm (order_falls x r _ q ?_) hp⟩
    show j.val % 8192 ≤ q.val
    omega

/-- Row `r` of a device's band is its half of a row of the whole array. -/
theorem band_eq (hm : Holds m x) (ρ : Dev nD → PrngReg) (c : Dev nD) (r : Fin 128) (q : Fin 4096) :
    (band m ρ c (ix2 r q) : EReal) = x (ix2 ⟨128 * (y c).val + r.val, by omega⟩ ⟨4096 * (half c).val + q.val, by omega⟩) := by
  rw [band_apply, hm c, Layout.blockN_apply]
  refine congrArg x (funext fun a => Fin.ext ?_)
  rw [Layout.TilesN.idx_val]
  match a with
  | ⟨0, _⟩ => exact (congrArg (· + _) (Nat.zero_mul _)).trans (Nat.zero_add _)
  | ⟨1, _⟩ =>
    have e : Layout.meshLin [2, 4, 4] c.val [0] = (half c).val := by revert c; decide +kernel
    show Layout.meshLin [2, 4, 4] c.val [0] * 4096 + q.val = 4096 * (half c).val + q.val
    rw [e, Nat.mul_comm]

/-- A device's band is of the top of the row it belongs to. -/
theorem within_band (hm : Holds m x) (ρ : Dev nD → PrngReg) (c : Dev nD) (r : Fin 128) (j : Fin 16) :
    Within (sorted x ⟨128 * (y c).val + r.val, by omega⟩) j.val fun q : Fin 4096 => (band m ρ c (ix2 r q) : EReal) :=
  within_of_values (within_sorted ⟨128 * (y c).val + r.val, by omega⟩ j) fun q => .inr ⟨_, (band_eq hm ρ c r q).symm⟩

/-- The sorted row falls, strictly or not. -/
theorem sorted_le (r : Fin 512) (j : Fin 16) (k l : ℕ) (hkl : k ≤ l) (hl : l ≤ j.val) : sorted x r l ≤ sorted x r k :=
  order_falls x r _ _ (show k % 8192 ≤ l % 8192 by omega)

/-- The merged candidates of a device's band never exceed the row's greatest. -/
theorem res_le (hm : Holds m x) (ρ : Dev nD → PrngReg) (c : Dev nD) (r : Fin 128) (j : Fin 16) :
    (resAt m ρ c (ix2 r j) : EReal) ≤ sorted x ⟨128 * (y c).val + r.val, by omega⟩ j.val := by
  have hw := within_band hm ρ c r j
  have hw' := within_band hm ρ (pr c) r j
  simp only [y_pr] at hw'
  exact merge_le (sorted_le _ j) j.isLt _ _ r (within_cand _ r hw) (within_cand _ r hw')

/-- Every element down to one that is kept has a place at which fewer than three elements of its lane are greater. -/
theorem place_of_kept (r : Fin 512) (j : Fin 16) (h : Kept x r j) (k : ℕ) (hk : k ≤ j.val) :
    ∃ (h : Fin 2) (i : Fin 32) (l : Fin 128), (x (ix2 r ⟨4096 * h.val + (128 * i.val + l.val), by omega⟩) : EReal) = sorted x r k
      ∧ (Finset.univ.filter fun i' : Fin 32 => sorted x r k < x (ix2 r ⟨4096 * h.val + (128 * i'.val + l.val), by omega⟩)).card < 3 := by
  rcases Nat.lt_or_ge k j.val with hlt | hge
  · have hs : Falls (sorted x r) j.val := fun k hk => by
      have := h.falls ⟨k, by omega⟩ hk
      rwa [taken_eq_sorted, taken_eq_sorted] at this
    have hp : (order x r ⟨k % 8192, Nat.mod_lt _ (by decide)⟩).val < 8192 := Fin.isLt _
    generalize hpe : order x r ⟨k % 8192, Nat.mod_lt _ (by decide)⟩ = p at hp
    have he : (x (ix2 r ⟨4096 * (p.val / 4096) + (128 * (p.val % 4096 / 128) + p.val % 128), by omega⟩) : EReal) = sorted x r k := by
      unfold sorted
      rw [hpe]
      exact congrArg (fun q => (x (ix2 r q) : EReal)) (Fin.ext (by show 4096 * (p.val / 4096) + (128 * (p.val % 4096 / 128) + p.val % 128) = p.val; omega))
    refine ⟨⟨p.val / 4096, by omega⟩, ⟨p.val % 4096 / 128, by omega⟩, ⟨p.val % 128, Nat.mod_lt _ (by decide)⟩, he, ?_⟩
    refine Nat.lt_of_lt_of_le (Finset.card_lt_card ?_) (h.few ⟨p.val / 4096, by omega⟩ ⟨p.val % 128, Nat.mod_lt _ (by decide)⟩)
    unfold greater
    have hlt' := hs.lt hlt le_rfl
    rw [← taken_eq_sorted] at hlt'
    refine (Finset.ssubset_iff_of_subset fun i hi => ?_).mpr ⟨⟨p.val % 4096 / 128, by omega⟩, ?_, ?_⟩
    · rw [Finset.mem_filter] at hi ⊢; exact ⟨hi.1, hlt'.trans hi.2⟩
    · exact Finset.mem_filter.mpr ⟨Finset.mem_univ _, hlt'.trans_eq he.symm⟩
    · exact fun hi => absurd (Finset.mem_filter.mp hi).2 (not_lt.mpr he.le)
  · obtain rfl : k = j.val := by omega
    obtain ⟨a, i, l, e, hc⟩ := h.found
    unfold greater at hc
    rw [taken_eq_sorted] at e hc
    exact ⟨a, i, l, e, hc⟩

/-- The lanes of a device's band are those of its half of the row. -/
theorem lane_eq (hm : Holds m x) (ρ : Dev nD → PrngReg) (c d : Dev nD) (hd : y d = y c) (r l : Fin 128) (i : Fin 32) :
    lane (band m ρ d) r l i = x (ix2 ⟨128 * (y c).val + r.val, by omega⟩ ⟨4096 * (half d).val + (128 * i.val + l.val), by omega⟩) := by
  unfold lane
  rw [band_eq hm ρ d r ⟨128 * i.val + l.val, by omega⟩]
  simp only [hd]

/-- The merged candidates of a device's band are the row's greatest, where they are kept. -/
theorem res_eq (hm : Holds m x) (ρ : Dev nD → PrngReg) (c : Dev nD) (r : Fin 128) (j : Fin 16)
    (h : Kept x ⟨128 * (y c).val + r.val, by omega⟩ j) :
    (resAt m ρ c (ix2 r j) : EReal) = sorted x ⟨128 * (y c).val + r.val, by omega⟩ j.val := by
  have hs : Falls (sorted x ⟨128 * (y c).val + r.val, by omega⟩) j.val := fun k hk => by
    have := h.falls ⟨k, by omega⟩ hk
    rwa [taken_eq_sorted, taken_eq_sorted] at this
  have hw := within_band hm ρ c r j
  have hw' := within_band hm ρ (pr c) r j
  simp only [y_pr] at hw'
  refine merge_found hs j.isLt _ _ r (within_cand _ r hw) (within_cand _ r hw') fun k hk => ?_
  obtain ⟨a, i, l, e, hc⟩ := place_of_kept _ j h k hk
  have at_half (d : Dev nD) (hd : y d = y c) (hh : half d = a) (hwd : Within (sorted x ⟨128 * (y c).val + r.val, by omega⟩) j.val fun q : Fin 4096 => (band m ρ d (ix2 r q) : EReal)) :
      ∃ k' : Fin 16, (cand (band m ρ d) (ix2 r k') : EReal) = sorted x ⟨128 * (y c).val + r.val, by omega⟩ k := by
    subst hh
    refine cand_found hs j.isLt _ r hwd hk i l ((lane_eq hm ρ c d hd r l i).trans e) ?_
    simp only [lane_eq hm ρ c d hd r l]
    exact hc
  by_cases ha : half c = a
  · exact .inl (at_half c rfl ha hw)
  · refine .inr (at_half (pr c) (y_pr c) (Fin.ext ?_) hw')
    have := half_pr c
    have := a.isLt
    have := (half c).isLt
    have : (half c).val ≠ a.val := fun h' => ha (Fin.ext h')
    omega

/-- The merged candidates of a device's band are the row's greatest, where the mask holds. -/
theorem res_eq_of_fn (hm : Holds m x) (ρ : Dev nD → PrngReg) (c : Dev nD) (r : Fin 128) (j : Fin 16)
    (h : On_exact_where.fn (F := Ideal) x (ix2 ⟨128 * (y c).val + r.val, by omega⟩ j) = 1#1) :
    (resAt m ρ c (ix2 r j) : EReal) = sorted x ⟨128 * (y c).val + r.val, by omega⟩ j.val := by
  rcases kept_of_fn x _ j h with hb | hk
  · rw [taken_eq_sorted] at hb
    have hle := res_le hm ρ c r j
    rw [hb] at hle ⊢
    exact le_bot_iff.mp hle
  · exact res_eq hm ρ c r j hk

/-- Each device's result is the reference's where the mask holds. -/
theorem out_eq (hm : Holds m x) (ρ : Dev nD → PrngReg) (c : Dev nD) (i : S512x16.Idx) (h : On_exact_where.fn (F := Ideal) x i = 1#1) :
    outAt m ρ c i = taken x i := by
  obtain ⟨r, j, rfl⟩ : ∃ (r : Fin 512) (j : Fin 16), i = ix2 r j := ⟨_, _, eq_ix2 i⟩
  have e : (⟨128 * (y (pe c ⟨r.val / 128 % 4, Nat.mod_lt _ (by decide)⟩)).val + r.val % 128, by omega⟩ : Fin 512) = r := by
    refine Fin.ext ?_
    show 128 * (y (pe c ⟨r.val / 128 % 4, Nat.mod_lt _ (by decide)⟩)).val + r.val % 128 = r.val
    rw [y_pe]
    show 128 * (r.val / 128 % 4) + r.val % 128 = r.val
    omega
  have h' := res_eq_of_fn hm ρ (pe c ⟨r.val / 128 % 4, Nat.mod_lt _ (by decide)⟩) ⟨r.val % 128, Nat.mod_lt _ (by decide)⟩ j (by rw [e]; exact h)
  rw [e, ← taken_eq_sorted] at h'
  refine Eq.trans (congrArg (resAt m ρ _) ?_) h'
  funext a
  match a with
  | ⟨0, _⟩ => rfl
  | ⟨1, _⟩ => rfl

/-- What the reference's operations compute is `taken` of its argument. -/
theorem reference_run (m' : (ℓ : Loc ReferenceIdeal.nD ReferenceIdeal.τ ReferenceIdeal.sig) → Buf (Elt Ideal) ℓ) (ρ' : Dev ReferenceIdeal.nD → PrngReg) :
    θ_run (ReferenceIdeal.defs (F := Ideal)) (onTc (τ := ReferenceIdeal.τ) (ReferenceIdeal.main (F := Ideal))) ⟨m', fun _ => 0, ρ'⟩ fun r =>
      r.2.mem (((0 : Dev ReferenceIdeal.nD).tc : Thread ReferenceIdeal.nD ReferenceIdeal.τ).loc ReferenceIdeal.main_v4)
        = taken (m' (((0 : Dev ReferenceIdeal.nD).tc : Thread ReferenceIdeal.nD ReferenceIdeal.τ).loc ReferenceIdeal.main_arg0))
      ∧ r.2.mem (((0 : Dev ReferenceIdeal.nD).tc : Thread ReferenceIdeal.nD ReferenceIdeal.τ).loc ReferenceIdeal.main_arg0)
        = m' (((0 : Dev ReferenceIdeal.nD).tc : Thread ReferenceIdeal.nD ReferenceIdeal.τ).loc ReferenceIdeal.main_arg0) :=
  (θ_run ReferenceIdeal.defs _ _).mono (fun _ h => ⟨(h 0).1, (h 0).2⟩) (ReferenceIdeal.Value.run (F := Ideal) m' ρ')

/-- Where the mask holds, every device's result array and the reference's end equal; the arguments are unchanged. -/
theorem equation : Cert.algebraic_KernelIdeal_ReferenceIdeal_on_exact_where := by
  intro m ρ m' ρ' _ hm
  refine ⟨taken (m' (((0 : Dev ReferenceIdeal.nD).tc : Thread ReferenceIdeal.nD ReferenceIdeal.τ).loc ReferenceIdeal.main_arg0)), ?_, ?_⟩
  · exact (θ_run defs _ _).mono
      (fun _ h c => ⟨fun i hi => (congrFun (h c).1 i).trans (out_eq hm ρ c i hi), (h c).2⟩) (run_result m ρ)
  · exact (θ_run ReferenceIdeal.defs _ _).mono (fun _ h => ⟨fun i _ => congrFun h.1 i, h.2⟩) (reference_run m' ρ')

end Cert.KernelIdeal.Run
-- ==== Proof.lean ====
/-
The proof of `Cert.Claim`: the three programs run, leave their arguments as they were and every semaphore at zero; the
idealized kernel is the kernel's own text; and where the mask holds it ends with the reference's values.
-/
module

public import proofs.«01_k».proof.Defs
public import proofs.«01_k».proof.Proof.Gen.ReferenceIdeal
public import proofs.«01_k».proof.Proof.Gen.ReferenceIdeal.Run
public import proofs.«01_k».proof.Proof.LaunchKernel
public import proofs.«01_k».proof.Proof.LaunchKernelIdeal
public import proofs.«01_k».proof.Proof.Gen.On_exact_where
public import proofs.«01_k».proof.Proof.Equation

@[expose] public section

noncomputable section

namespace Cert.Proof

open Idealize.ShloMosaic Idealize.SL.Sem

/-- The kernel runs, its argument unchanged and every semaphore back at zero. -/
theorem frame_kernel : Cert.quiescent_Kernel (hKernel := Cert.Kernel.Gen.facts) := fun m ρ _ =>
  (θ_run Cert.Kernel.defs _ _).mono (fun _ h => ⟨fun c => (h.1 c (0 : Fin 2)).trans (Cert.Kernel.Run.finalA_arg m ρ c), h.2⟩)
    (Cert.Kernel.Run.run_main (F := Bits) m ρ)

/-- So does the idealized kernel. -/
theorem frame_ideal : Cert.quiescent_KernelIdeal (hKernelIdeal := Cert.KernelIdeal.Gen.facts) := fun m ρ _ =>
  (θ_run Cert.KernelIdeal.defs _ _).mono (fun _ h => ⟨fun c => (h.1 c (0 : Fin 2)).trans (Cert.KernelIdeal.Run.finalA_arg m ρ c), h.2⟩)
    (Cert.KernelIdeal.Run.run_main (F := Ideal) m ρ)

/-- So does the reference, which has no semaphore at all. -/
theorem frame_reference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Everything the certificate claims. -/
theorem claim : Cert.Claim :=
  ⟨Cert.Kernel.Gen.facts, Cert.KernelIdeal.Gen.facts, Cert.ReferenceIdeal.Gen.facts, Cert.On_exact_where.Gen.facts,
    frame_kernel, frame_ideal, frame_reference, trivial, Cert.KernelIdeal.Run.equation⟩

end Cert.Proof

end
